-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S4x224x224x96 : Shape := ⟨4, ![4, 224, 224, 96]⟩
abbrev S4x64x4 : Shape := ⟨3, ![4, 64, 4]⟩
abbrev S4x64x2 : Shape := ⟨3, ![4, 64, 2]⟩
abbrev S_ : Shape := ⟨0, ![]⟩

class Facts : Prop where
  slices_S4x64x4_S4x64x2_0_0_0 : S4x64x4.Slices ![0, 0, 0] S4x64x2
  slices_S4x64x4_S4x64x2_0_0_2 : S4x64x4.Slices ![0, 0, 2] S4x64x2
  bcast_S_S4x64x2 : S_.BroadcastsInDim S4x64x2 (![] : Fin 0 → Fin S4x64x2.rank)
  reducesTo_S4x64x2_S_d0_1_2 : S4x64x2.ReducesTo [0, 1, 2] S_
  h_S_ : 0 < S_.numel

variable [Facts]

def fn {F : FTy → Type} [FloatOps F] (main_arg0 : FVec F S4x224x224x96 .f32) (main_arg1 : IVec S4x64x4 32) : IVec S_ 1 :=
  let main_v0 : IVec S4x64x2 32 := (extractStridedSlice S4x64x2 ![0, 0, 0] · slices_S4x64x4_S4x64x2_0_0_0) main_arg1
  let main_v1 : IVec S4x64x2 32 := (extractStridedSlice S4x64x2 ![0, 0, 2] · slices_S4x64x4_S4x64x2_0_0_2) main_arg1
  let main_c : IVec S_ 32 := constantI S_ 32 0#32
  let main_v2 : IVec S4x64x2 32 := broadcastInDim S4x64x2 ![] bcast_S_S4x64x2 main_c
  let main_v3 : IVec S4x64x2 1 := cmpi .sge main_v0 main_v2
  let main_c_0 : IVec S_ 32 := constantI S_ 32 112#32
  let main_v4 : IVec S4x64x2 32 := broadcastInDim S4x64x2 ![] bcast_S_S4x64x2 main_c_0
  let main_v5 : IVec S4x64x2 1 := cmpi .slt main_v0 main_v4
  let main_v6 : IVec S4x64x2 1 := andi main_v3 main_v5
  let main_c_1 : IVec S_ 1 := constantI S_ 1 1#1
  let main_v7 : IVec S_ 1 := (fun x v => Host.reduce IntOp.andi x v reducesTo_S4x64x2_S_d0_1_2 h_S_) main_v6 main_c_1
  let main_c_2 : IVec S_ 32 := constantI S_ 32 8#32
  let main_v8 : IVec S4x64x2 32 := broadcastInDim S4x64x2 ![] bcast_S_S4x64x2 main_c_2
  let main_v9 : IVec S4x64x2 1 := cmpi .sge main_v1 main_v8
  let main_c_3 : IVec S_ 32 := constantI S_ 32 112#32
  let main_v10 : IVec S4x64x2 32 := broadcastInDim S4x64x2 ![] bcast_S_S4x64x2 main_c_3
  let main_v11 : IVec S4x64x2 1 := cmpi .slt main_v1 main_v10
  let main_v12 : IVec S4x64x2 1 := andi main_v9 main_v11
  let main_c_4 : IVec S_ 1 := constantI S_ 1 1#1
  let main_v13 : IVec S_ 1 := (fun x v => Host.reduce IntOp.andi x v reducesTo_S4x64x2_S_d0_1_2 h_S_) main_v12 main_c_4
  let main_v14 : IVec S_ 1 := andi main_v7 main_v13
  main_v14
-- ==== Kernel.lean ====
abbrev S4x224x224x96 : Shape := ⟨4, ![4, 224, 224, 96]⟩
abbrev S4x64x4 : Shape := ⟨3, ![4, 64, 4]⟩
abbrev S4x224x96x224 : Shape := ⟨4, ![4, 224, 96, 224]⟩
abbrev S1024 : Shape := ⟨1, ![1024]⟩
abbrev S1024x16 : Shape := ⟨2, ![1024, 16]⟩
abbrev S16384 : Shape := ⟨1, ![16384]⟩
abbrev S4x224x224x128 : Shape := ⟨4, ![4, 224, 224, 128]⟩
abbrev S1x112x96x224 : Shape := ⟨4, ![1, 112, 96, 224]⟩
abbrev S1x8x96x224 : Shape := ⟨4, ![1, 8, 96, 224]⟩
abbrev S1x112x224x128 : Shape := ⟨4, ![1, 112, 224, 128]⟩
abbrev S112x96x224 : Shape := ⟨3, ![112, 96, 224]⟩
abbrev S8x96x224 : Shape := ⟨3, ![8, 96, 224]⟩
abbrev S120x96x224 : Shape := ⟨3, ![120, 96, 224]⟩
abbrev S96x96 : Shape := ⟨2, ![96, 96]⟩
abbrev S120x224x96 : Shape := ⟨3, ![120, 224, 96]⟩
abbrev S120x223x96 : Shape := ⟨3, ![120, 223, 96]⟩
abbrev S120x1x96 : Shape := ⟨3, ![120, 1, 96]⟩
abbrev S120x222x96 : Shape := ⟨3, ![120, 222, 96]⟩
abbrev S120x2x96 : Shape := ⟨3, ![120, 2, 96]⟩
abbrev S120x220x96 : Shape := ⟨3, ![120, 220, 96]⟩
abbrev S120x4x96 : Shape := ⟨3, ![120, 4, 96]⟩
abbrev S119x224x96 : Shape := ⟨3, ![119, 224, 96]⟩
abbrev S117x224x96 : Shape := ⟨3, ![117, 224, 96]⟩
abbrev S112x224x96 : Shape := ⟨3, ![112, 224, 96]⟩
abbrev S1x112x224x96 : Shape := ⟨4, ![1, 112, 224, 96]⟩
abbrev S200704x128 : Shape := ⟨2, ![200704, 128]⟩
abbrev S256x96 : Shape := ⟨2, ![256, 96]⟩
abbrev S512 : Shape := ⟨1, ![512]⟩
abbrev S224 : Shape := ⟨1, ![224]⟩
abbrev S224x128 : Shape := ⟨2, ![224, 128]⟩
abbrev S8x96 : Shape := ⟨2, ![8, 96]⟩
abbrev S_ : Shape := ⟨0, ![]⟩
abbrev S16 : Shape := ⟨1, ![16]⟩
abbrev S32x128 : Shape := ⟨2, ![32, 128]⟩
abbrev S32 : Shape := ⟨1, ![32]⟩
abbrev S1x16 : Shape := ⟨2, ![1, 16]⟩
abbrev S4x64x96 : Shape := ⟨3, ![4, 64, 96]⟩

abbrev nBuf : Table → Nat
  | .hbm => 10
  | .local .tc .vmem => 6
  | .local .scVector .vmem => 4
  | _ => 0

abbrev bufTy : (tb : Table) → Fin (nBuf tb) → BufTy
  | .hbm, ⟨0, _⟩ => ⟨S4x224x224x96, .f32⟩
  | .hbm, ⟨1, _⟩ => ⟨S4x64x4, .i32⟩
  | .hbm, ⟨2, _⟩ => ⟨S4x224x96x224, .f32⟩
  | .hbm, ⟨3, _⟩ => ⟨S1024, .i32⟩
  | .hbm, ⟨4, _⟩ => ⟨S1024x16, .i32⟩
  | .hbm, ⟨5, _⟩ => ⟨S16384, .i32⟩
  | .hbm, ⟨6, _⟩ => ⟨S4x224x224x128, .f32⟩
  | .hbm, ⟨7, _⟩ => ⟨S200704x128, .f32⟩
  | .hbm, ⟨8, _⟩ => ⟨S256x96, .f32⟩
  | .hbm, ⟨9, _⟩ => ⟨S4x64x96, .f32⟩
  | .local .tc .vmem, ⟨0, _⟩ => ⟨S1x112x96x224, .f32⟩
  | .local .tc .vmem, ⟨1, _⟩ => ⟨S1x112x96x224, .f32⟩
  | .local .tc .vmem, ⟨2, _⟩ => ⟨S1x8x96x224, .f32⟩
  | .local .tc .vmem, ⟨3, _⟩ => ⟨S1x8x96x224, .f32⟩
  | .local .tc .vmem, ⟨4, _⟩ => ⟨S1x112x224x128, .f32⟩
  | .local .tc .vmem, ⟨5, _⟩ => ⟨S1x112x224x128, .f32⟩
  | .local .scVector .vmem, ⟨0, _⟩ => ⟨S512, .i32⟩
  | .local .scVector .vmem, ⟨1, _⟩ => ⟨S224, .i32⟩
  | .local .scVector .vmem, ⟨2, _⟩ => ⟨S224x128, .f32⟩
  | .local .scVector .vmem, ⟨3, _⟩ => ⟨S8x96, .f32⟩
  | _, _ => ⟨S4x224x224x96, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => false
  | ⟨7, _⟩ => false
  | ⟨8, _⟩ => false
  | _ => false

abbrev sig : RefSig :=
  ofTables nBuf rfl bufTy 4 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v5_scv : Ref sig .scVector := ⟨.hbm, 7, rfl⟩
abbrev main_v3_scv : Ref sig .scVector := ⟨.hbm, 5, rfl⟩
abbrev main_v6_scv : Ref sig .scVector := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![4, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![v0.toNat, arg1.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c1_i32 : BitVec 32 := 1#32
  let v1 : BitVec 32 := Scalar.addi arg1 c1_i32
  let c14_i32 : BitVec 32 := 14#32
  let v2 : BitVec 32 := Scalar.muli c14_i32 v1
  let c27_i32 : BitVec 32 := 27#32
  let v3 : BitVec 32 := Scalar.minsi v2 c27_i32
  let c0_i32_0 : BitVec 32 := 0#32
  let c0_i32_1 : BitVec 32 := 0#32
  let c0_i32_2 : BitVec 32 := 0#32
  ![v0.toNat, v3.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x112x96x224 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x96x224 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x112x224x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![2, 16], ![false, false]⟩

def k1_off1 (i : grid1.Coords) : Fin 1 → Nat :=
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let v3 : BitVec 32 := Scalar.addi c0_i32 v2
  let c4_i32 : BitVec 32 := 4#32
  let v4 : BitVec 32 := Scalar.muli v3 c4_i32
  let c16_i32 : BitVec 32 := 16#32
  let v5 : BitVec 32 := Scalar.muli v4 c16_i32
  ![v5.toNat]
@[reducible] def k1_t1_loop : Scf.Loop 32 :=
  let c0_i32_1 : BitVec 32 := 0#32
  let c14_i32 : BitVec 32 := 14#32
  let v6 : BitVec 32 := Scalar.addi c0_i32_1 c14_i32
  let c1_i32 : BitVec 32 := 1#32
  ⟨c0_i32_1, v6, c1_i32⟩
def k1_off2 (k1_t1 : Fin k1_t1_loop.trips) : Fin 1 → Nat :=
  let c0_i32_1 : BitVec 32 := 0#32
  let c1_i32 : BitVec 32 := 1#32
  let arg10 : BitVec 32 := Scf.iv c0_i32_1 c1_i32 k1_t1
  let c16_i32_10 : BitVec 32 := 16#32
  let v12 : BitVec 32 := Scalar.muli arg10 c16_i32_10
  let v13 : Index := Scalar.indexCast v12
  ![v13.toNat]
@[reducible] def k1_t2_loop : Scf.Loop 32 :=
  let c0_i32_4 : BitVec 32 := 0#32
  let c8_i32_5 : BitVec 32 := 8#32
  let v8 : BitVec 32 := Scalar.addi c0_i32_4 c8_i32_5
  let c1_i32_6 : BitVec 32 := 1#32
  ⟨c0_i32_4, v8, c1_i32_6⟩
def k1_off3 (k1_t2 : Fin k1_t2_loop.trips) (c0_i32_11 : BitVec 32) : Fin 1 → Nat :=
  let c0_i32_4 : BitVec 32 := 0#32
  let c1_i32_6 : BitVec 32 := 1#32
  let arg10 : BitVec 32 := Scf.iv c0_i32_4 c1_i32_6 k1_t2
  let c4_i32_10 : BitVec 32 := 4#32
  let v13 : BitVec 32 := Scalar.muli arg10 c4_i32_10
  let v14 : BitVec 32 := Scalar.addi v13 c0_i32_11
  let c16_i32_12 : BitVec 32 := 16#32
  let v15 : BitVec 32 := Scalar.muli v14 c16_i32_12
  let v16 : Index := Scalar.indexCast v15
  ![v16.toNat]
@[reducible] def k1_t3_loop (v117 : BitVec 32) : Scf.Loop 32 :=
  let c0_i32_55 : BitVec 32 := 0#32
  let c16_i32_46 : BitVec 32 := 16#32
  let v118 : BitVec 32 := Scalar.addi v117 c16_i32_46
  let c1_i32_47 : BitVec 32 := 1#32
  let v119 : BitVec 32 := Scalar.subi v118 c1_i32_47
  let c0_i32_49 : BitVec 32 := 0#32
  let v121 : BitVec 1 := Scalar.cmpi .sgt v119 c0_i32_49
  let v122 : BitVec 32 := Scalar.extui v121
  let c0_i32_50 : BitVec 32 := 0#32
  let v123 : BitVec 1 := Scalar.cmpi .slt v119 c0_i32_50
  let v124 : BitVec 32 := Scalar.extui v123
  let v125 : BitVec 32 := Scalar.subi v122 v124
  let c16_i32_48 : BitVec 32 := 16#32
  let c0_i32_51 : BitVec 32 := 0#32
  let v126 : BitVec 1 := Scalar.cmpi .sgt c16_i32_48 c0_i32_51
  let v127 : BitVec 32 := Scalar.extui v126
  let c0_i32_52 : BitVec 32 := 0#32
  let v128 : BitVec 1 := Scalar.cmpi .slt c16_i32_48 c0_i32_52
  let v129 : BitVec 32 := Scalar.extui v128
  let v130 : BitVec 32 := Scalar.subi v127 v129
  let v131 : BitVec 1 := Scalar.cmpi .ne v125 v130
  let v132 : BitVec 32 := Scalar.remsi v119 c16_i32_48
  let c0_i32_53 : BitVec 32 := 0#32
  let v133 : BitVec 1 := Scalar.cmpi .ne v132 c0_i32_53
  let v134 : BitVec 1 := Scalar.andi v131 v133
  let v120 : BitVec 32 := Scalar.divsi v119 c16_i32_48
  let c1_i32_54 : BitVec 32 := 1#32
  let v135 : BitVec 32 := Scalar.subi v120 c1_i32_54
  let v136 : BitVec 32 := Scalar.select v134 v135 v120
  let v137 : BitVec 32 := Scalar.subi v136 c0_i32_55
  let c1_i32_57 : BitVec 32 := 1#32
  let v139 : BitVec 32 := Scalar.divsi v137 c1_i32_57
  let v140 : BitVec 32 := Scalar.muli v139 c1_i32_57
  let v141 : BitVec 32 := Scalar.addi c0_i32_55 v140
  let c1_i32_58 : BitVec 32 := 1#32
  ⟨c0_i32_55, v141, c1_i32_58⟩

def k1_off4 (v117 : BitVec 32) (k1_t3 : Fin (k1_t3_loop v117).trips) : Fin 1 → Nat :=
  let c0_i32_55 : BitVec 32 := 0#32
  let c1_i32_58 : BitVec 32 := 1#32
  let arg12 : BitVec 32 := Scf.iv c0_i32_55 c1_i32_58 k1_t3
  let c16_i32_98 : BitVec 32 := 16#32
  let v256 : BitVec 32 := Scalar.muli arg12 c16_i32_98
  let v257 : Index := Scalar.indexCast v256
  ![v257.toNat]
@[reducible] def k1_t4_loop (v117 : BitVec 32) : Scf.Loop 32 :=
  let c0_i32_55 : BitVec 32 := 0#32
  let c16_i32_46 : BitVec 32 := 16#32
  let v118 : BitVec 32 := Scalar.addi v117 c16_i32_46
  let c1_i32_47 : BitVec 32 := 1#32
  let v119 : BitVec 32 := Scalar.subi v118 c1_i32_47
  let c0_i32_49 : BitVec 32 := 0#32
  let v121 : BitVec 1 := Scalar.cmpi .sgt v119 c0_i32_49
  let v122 : BitVec 32 := Scalar.extui v121
  let c0_i32_50 : BitVec 32 := 0#32
  let v123 : BitVec 1 := Scalar.cmpi .slt v119 c0_i32_50
  let v124 : BitVec 32 := Scalar.extui v123
  let v125 : BitVec 32 := Scalar.subi v122 v124
  let c16_i32_48 : BitVec 32 := 16#32
  let c0_i32_51 : BitVec 32 := 0#32
  let v126 : BitVec 1 := Scalar.cmpi .sgt c16_i32_48 c0_i32_51
  let v127 : BitVec 32 := Scalar.extui v126
  let c0_i32_52 : BitVec 32 := 0#32
  let v128 : BitVec 1 := Scalar.cmpi .slt c16_i32_48 c0_i32_52
  let v129 : BitVec 32 := Scalar.extui v128
  let v130 : BitVec 32 := Scalar.subi v127 v129
  let v131 : BitVec 1 := Scalar.cmpi .ne v125 v130
  let v132 : BitVec 32 := Scalar.remsi v119 c16_i32_48
  let c0_i32_53 : BitVec 32 := 0#32
  let v133 : BitVec 1 := Scalar.cmpi .ne v132 c0_i32_53
  let v134 : BitVec 1 := Scalar.andi v131 v133
  let v120 : BitVec 32 := Scalar.divsi v119 c16_i32_48
  let c1_i32_54 : BitVec 32 := 1#32
  let v135 : BitVec 32 := Scalar.subi v120 c1_i32_54
  let v136 : BitVec 32 := Scalar.select v134 v135 v120
  let v137 : BitVec 32 := Scalar.subi v136 c0_i32_55
  let c1_i32_57 : BitVec 32 := 1#32
  let v139 : BitVec 32 := Scalar.divsi v137 c1_i32_57
  let v140 : BitVec 32 := Scalar.muli v139 c1_i32_57
  let v141 : BitVec 32 := Scalar.addi c0_i32_55 v140
  let v138 : BitVec 32 := Scalar.addi c0_i32_55 v137
  let c1_i32_59 : BitVec 32 := 1#32
  ⟨v141, v138, c1_i32_59⟩
def k1_off5 (v117 : BitVec 32) (k1_t4 : Fin (k1_t4_loop v117).trips) : Fin 1 → Nat :=
  let c0_i32_55 : BitVec 32 := 0#32
  let c16_i32_46 : BitVec 32 := 16#32
  let v118 : BitVec 32 := Scalar.addi v117 c16_i32_46
  let c1_i32_47 : BitVec 32 := 1#32
  let v119 : BitVec 32 := Scalar.subi v118 c1_i32_47
  let c0_i32_49 : BitVec 32 := 0#32
  let v121 : BitVec 1 := Scalar.cmpi .sgt v119 c0_i32_49
  let v122 : BitVec 32 := Scalar.extui v121
  let c0_i32_50 : BitVec 32 := 0#32
  let v123 : BitVec 1 := Scalar.cmpi .slt v119 c0_i32_50
  let v124 : BitVec 32 := Scalar.extui v123
  let v125 : BitVec 32 := Scalar.subi v122 v124
  let c16_i32_48 : BitVec 32 := 16#32
  let c0_i32_51 : BitVec 32 := 0#32
  let v126 : BitVec 1 := Scalar.cmpi .sgt c16_i32_48 c0_i32_51
  let v127 : BitVec 32 := Scalar.extui v126
  let c0_i32_52 : BitVec 32 := 0#32
  let v128 : BitVec 1 := Scalar.cmpi .slt c16_i32_48 c0_i32_52
  let v129 : BitVec 32 := Scalar.extui v128
  let v130 : BitVec 32 := Scalar.subi v127 v129
  let v131 : BitVec 1 := Scalar.cmpi .ne v125 v130
  let v132 : BitVec 32 := Scalar.remsi v119 c16_i32_48
  let c0_i32_53 : BitVec 32 := 0#32
  let v133 : BitVec 1 := Scalar.cmpi .ne v132 c0_i32_53
  let v134 : BitVec 1 := Scalar.andi v131 v133
  let v120 : BitVec 32 := Scalar.divsi v119 c16_i32_48
  let c1_i32_54 : BitVec 32 := 1#32
  let v135 : BitVec 32 := Scalar.subi v120 c1_i32_54
  let v136 : BitVec 32 := Scalar.select v134 v135 v120
  let v137 : BitVec 32 := Scalar.subi v136 c0_i32_55
  let c1_i32_57 : BitVec 32 := 1#32
  let v139 : BitVec 32 := Scalar.divsi v137 c1_i32_57
  let v140 : BitVec 32 := Scalar.muli v139 c1_i32_57
  let v141 : BitVec 32 := Scalar.addi c0_i32_55 v140
  let c1_i32_59 : BitVec 32 := 1#32
  let arg12 : BitVec 32 := Scf.iv v141 c1_i32_59 k1_t4
  let c16_i32_98 : BitVec 32 := 16#32
  let v256 : BitVec 32 := Scalar.muli arg12 c16_i32_98
  let v257 : Index := Scalar.indexCast v256
  ![v257.toNat]
@[reducible] def k1_t5_loop (v117 : BitVec 32) : Scf.Loop 32 :=
  let c0_i32_78 : BitVec 32 := 0#32
  let c32_i32_69 : BitVec 32 := 32#32
  let v165 : BitVec 32 := Scalar.addi v117 c32_i32_69
  let c1_i32_70 : BitVec 32 := 1#32
  let v166 : BitVec 32 := Scalar.subi v165 c1_i32_70
  let c0_i32_72 : BitVec 32 := 0#32
  let v168 : BitVec 1 := Scalar.cmpi .sgt v166 c0_i32_72
  let v169 : BitVec 32 := Scalar.extui v168
  let c0_i32_73 : BitVec 32 := 0#32
  let v170 : BitVec 1 := Scalar.cmpi .slt v166 c0_i32_73
  let v171 : BitVec 32 := Scalar.extui v170
  let v172 : BitVec 32 := Scalar.subi v169 v171
  let c32_i32_71 : BitVec 32 := 32#32
  let c0_i32_74 : BitVec 32 := 0#32
  let v173 : BitVec 1 := Scalar.cmpi .sgt c32_i32_71 c0_i32_74
  let v174 : BitVec 32 := Scalar.extui v173
  let c0_i32_75 : BitVec 32 := 0#32
  let v175 : BitVec 1 := Scalar.cmpi .slt c32_i32_71 c0_i32_75
  let v176 : BitVec 32 := Scalar.extui v175
  let v177 : BitVec 32 := Scalar.subi v174 v176
  let v178 : BitVec 1 := Scalar.cmpi .ne v172 v177
  let v179 : BitVec 32 := Scalar.remsi v166 c32_i32_71
  let c0_i32_76 : BitVec 32 := 0#32
  let v180 : BitVec 1 := Scalar.cmpi .ne v179 c0_i32_76
  let v181 : BitVec 1 := Scalar.andi v178 v180
  let v167 : BitVec 32 := Scalar.divsi v166 c32_i32_71
  let c1_i32_77 : BitVec 32 := 1#32
  let v182 : BitVec 32 := Scalar.subi v167 c1_i32_77
  let v183 : BitVec 32 := Scalar.select v181 v182 v167
  let v184 : BitVec 32 := Scalar.subi v183 c0_i32_78
  let c1_i32_80 : BitVec 32 := 1#32
  let v186 : BitVec 32 := Scalar.divsi v184 c1_i32_80
  let v187 : BitVec 32 := Scalar.muli v186 c1_i32_80
  let v188 : BitVec 32 := Scalar.addi c0_i32_78 v187
  let c1_i32_81 : BitVec 32 := 1#32
  ⟨c0_i32_78, v188, c1_i32_81⟩
@[reducible] def k1_t6_loop (v117 : BitVec 32) : Scf.Loop 32 :=
  let c0_i32_78 : BitVec 32 := 0#32
  let c32_i32_69 : BitVec 32 := 32#32
  let v165 : BitVec 32 := Scalar.addi v117 c32_i32_69
  let c1_i32_70 : BitVec 32 := 1#32
  let v166 : BitVec 32 := Scalar.subi v165 c1_i32_70
  let c0_i32_72 : BitVec 32 := 0#32
  let v168 : BitVec 1 := Scalar.cmpi .sgt v166 c0_i32_72
  let v169 : BitVec 32 := Scalar.extui v168
  let c0_i32_73 : BitVec 32 := 0#32
  let v170 : BitVec 1 := Scalar.cmpi .slt v166 c0_i32_73
  let v171 : BitVec 32 := Scalar.extui v170
  let v172 : BitVec 32 := Scalar.subi v169 v171
  let c32_i32_71 : BitVec 32 := 32#32
  let c0_i32_74 : BitVec 32 := 0#32
  let v173 : BitVec 1 := Scalar.cmpi .sgt c32_i32_71 c0_i32_74
  let v174 : BitVec 32 := Scalar.extui v173
  let c0_i32_75 : BitVec 32 := 0#32
  let v175 : BitVec 1 := Scalar.cmpi .slt c32_i32_71 c0_i32_75
  let v176 : BitVec 32 := Scalar.extui v175
  let v177 : BitVec 32 := Scalar.subi v174 v176
  let v178 : BitVec 1 := Scalar.cmpi .ne v172 v177
  let v179 : BitVec 32 := Scalar.remsi v166 c32_i32_71
  let c0_i32_76 : BitVec 32 := 0#32
  let v180 : BitVec 1 := Scalar.cmpi .ne v179 c0_i32_76
  let v181 : BitVec 1 := Scalar.andi v178 v180
  let v167 : BitVec 32 := Scalar.divsi v166 c32_i32_71
  let c1_i32_77 : BitVec 32 := 1#32
  let v182 : BitVec 32 := Scalar.subi v167 c1_i32_77
  let v183 : BitVec 32 := Scalar.select v181 v182 v167
  let v184 : BitVec 32 := Scalar.subi v183 c0_i32_78
  let c1_i32_80 : BitVec 32 := 1#32
  let v186 : BitVec 32 := Scalar.divsi v184 c1_i32_80
  let v187 : BitVec 32 := Scalar.muli v186 c1_i32_80
  let v188 : BitVec 32 := Scalar.addi c0_i32_78 v187
  let v185 : BitVec 32 := Scalar.addi c0_i32_78 v184
  let c1_i32_82 : BitVec 32 := 1#32
  ⟨v188, v185, c1_i32_82⟩
@[reducible] def k1_t7_loop (v117 : BitVec 32) : Scf.Loop 32 :=
  let c0_i32_83 : BitVec 32 := 0#32
  let v192 : BitVec 32 := Scalar.subi v117 c0_i32_83
  let c1_i32_84 : BitVec 32 := 1#32
  let v194 : BitVec 32 := Scalar.divsi v192 c1_i32_84
  let v195 : BitVec 32 := Scalar.muli v194 c1_i32_84
  let v196 : BitVec 32 := Scalar.addi c0_i32_83 v195
  let c1_i32_85 : BitVec 32 := 1#32
  ⟨c0_i32_83, v196, c1_i32_85⟩
def k1_off6 (v117 : BitVec 32) (k1_t7 : Fin (k1_t7_loop v117).trips) : Fin 2 → Nat :=
  let c0_i32_83 : BitVec 32 := 0#32
  let c1_i32_85 : BitVec 32 := 1#32
  let arg12 : BitVec 32 := Scf.iv c0_i32_83 c1_i32_85 k1_t7
  let v211 : Index := Scalar.indexCast arg12
  let c0_88 : Index := 0#32
  ![v211.toNat, 0]
def k1_off7 (v117 : BitVec 32) (k1_t7 : Fin (k1_t7_loop v117).trips) : Fin 2 → Nat :=
  let c0_i32_83 : BitVec 32 := 0#32
  let c1_i32_85 : BitVec 32 := 1#32
  let arg12 : BitVec 32 := Scf.iv c0_i32_83 c1_i32_85 k1_t7
  let v214 : Index := Scalar.indexCast arg12
  let c16_89 : Index := 16#32
  ![v214.toNat, 16]
def k1_off8 (v117 : BitVec 32) (k1_t7 : Fin (k1_t7_loop v117).trips) : Fin 2 → Nat :=
  let c0_i32_83 : BitVec 32 := 0#32
  let c1_i32_85 : BitVec 32 := 1#32
  let arg12 : BitVec 32 := Scf.iv c0_i32_83 c1_i32_85 k1_t7
  let v217 : Index := Scalar.indexCast arg12
  let c32_90 : Index := 32#32
  ![v217.toNat, 32]
def k1_off9 (v117 : BitVec 32) (k1_t7 : Fin (k1_t7_loop v117).trips) : Fin 2 → Nat :=
  let c0_i32_83 : BitVec 32 := 0#32
  let c1_i32_85 : BitVec 32 := 1#32
  let arg12 : BitVec 32 := Scf.iv c0_i32_83 c1_i32_85 k1_t7
  let v220 : Index := Scalar.indexCast arg12
  let c48_91 : Index := 48#32
  ![v220.toNat, 48]
def k1_off10 (v117 : BitVec 32) (k1_t7 : Fin (k1_t7_loop v117).trips) : Fin 2 → Nat :=
  let c0_i32_83 : BitVec 32 := 0#32
  let c1_i32_85 : BitVec 32 := 1#32
  let arg12 : BitVec 32 := Scf.iv c0_i32_83 c1_i32_85 k1_t7
  let v223 : Index := Scalar.indexCast arg12
  let c64_92 : Index := 64#32
  ![v223.toNat, 64]
def k1_off11 (v117 : BitVec 32) (k1_t7 : Fin (k1_t7_loop v117).trips) : Fin 2 → Nat :=
  let c0_i32_83 : BitVec 32 := 0#32
  let c1_i32_85 : BitVec 32 := 1#32
  let arg12 : BitVec 32 := Scf.iv c0_i32_83 c1_i32_85 k1_t7
  let v226 : Index := Scalar.indexCast arg12
  let c80_93 : Index := 80#32
  ![v226.toNat, 80]
@[reducible] def k1_t8_loop (v117 : BitVec 32) : Scf.Loop 32 :=
  let c0_i32_83 : BitVec 32 := 0#32
  let v192 : BitVec 32 := Scalar.subi v117 c0_i32_83
  let c1_i32_84 : BitVec 32 := 1#32
  let v194 : BitVec 32 := Scalar.divsi v192 c1_i32_84
  let v195 : BitVec 32 := Scalar.muli v194 c1_i32_84
  let v196 : BitVec 32 := Scalar.addi c0_i32_83 v195
  let v193 : BitVec 32 := Scalar.addi c0_i32_83 v192
  let c1_i32_86 : BitVec 32 := 1#32
  ⟨v196, v193, c1_i32_86⟩
def k1_off12 (v117 : BitVec 32) (k1_t8 : Fin (k1_t8_loop v117).trips) : Fin 2 → Nat :=
  let c0_i32_83 : BitVec 32 := 0#32
  let v192 : BitVec 32 := Scalar.subi v117 c0_i32_83
  let c1_i32_84 : BitVec 32 := 1#32
  let v194 : BitVec 32 := Scalar.divsi v192 c1_i32_84
  let v195 : BitVec 32 := Scalar.muli v194 c1_i32_84
  let v196 : BitVec 32 := Scalar.addi c0_i32_83 v195
  let c1_i32_86 : BitVec 32 := 1#32
  let arg12 : BitVec 32 := Scf.iv v196 c1_i32_86 k1_t8
  let v211 : Index := Scalar.indexCast arg12
  let c0_88 : Index := 0#32
  ![v211.toNat, 0]
def k1_off13 (v117 : BitVec 32) (k1_t8 : Fin (k1_t8_loop v117).trips) : Fin 2 → Nat :=
  let c0_i32_83 : BitVec 32 := 0#32
  let v192 : BitVec 32 := Scalar.subi v117 c0_i32_83
  let c1_i32_84 : BitVec 32 := 1#32
  let v194 : BitVec 32 := Scalar.divsi v192 c1_i32_84
  let v195 : BitVec 32 := Scalar.muli v194 c1_i32_84
  let v196 : BitVec 32 := Scalar.addi c0_i32_83 v195
  let c1_i32_86 : BitVec 32 := 1#32
  let arg12 : BitVec 32 := Scf.iv v196 c1_i32_86 k1_t8
  let v214 : Index := Scalar.indexCast arg12
  let c16_89 : Index := 16#32
  ![v214.toNat, 16]
def k1_off14 (v117 : BitVec 32) (k1_t8 : Fin (k1_t8_loop v117).trips) : Fin 2 → Nat :=
  let c0_i32_83 : BitVec 32 := 0#32
  let v192 : BitVec 32 := Scalar.subi v117 c0_i32_83
  let c1_i32_84 : BitVec 32 := 1#32
  let v194 : BitVec 32 := Scalar.divsi v192 c1_i32_84
  let v195 : BitVec 32 := Scalar.muli v194 c1_i32_84
  let v196 : BitVec 32 := Scalar.addi c0_i32_83 v195
  let c1_i32_86 : BitVec 32 := 1#32
  let arg12 : BitVec 32 := Scf.iv v196 c1_i32_86 k1_t8
  let v217 : Index := Scalar.indexCast arg12
  let c32_90 : Index := 32#32
  ![v217.toNat, 32]
def k1_off15 (v117 : BitVec 32) (k1_t8 : Fin (k1_t8_loop v117).trips) : Fin 2 → Nat :=
  let c0_i32_83 : BitVec 32 := 0#32
  let v192 : BitVec 32 := Scalar.subi v117 c0_i32_83
  let c1_i32_84 : BitVec 32 := 1#32
  let v194 : BitVec 32 := Scalar.divsi v192 c1_i32_84
  let v195 : BitVec 32 := Scalar.muli v194 c1_i32_84
  let v196 : BitVec 32 := Scalar.addi c0_i32_83 v195
  let c1_i32_86 : BitVec 32 := 1#32
  let arg12 : BitVec 32 := Scf.iv v196 c1_i32_86 k1_t8
  let v220 : Index := Scalar.indexCast arg12
  let c48_91 : Index := 48#32
  ![v220.toNat, 48]
def k1_off16 (v117 : BitVec 32) (k1_t8 : Fin (k1_t8_loop v117).trips) : Fin 2 → Nat :=
  let c0_i32_83 : BitVec 32 := 0#32
  let v192 : BitVec 32 := Scalar.subi v117 c0_i32_83
  let c1_i32_84 : BitVec 32 := 1#32
  let v194 : BitVec 32 := Scalar.divsi v192 c1_i32_84
  let v195 : BitVec 32 := Scalar.muli v194 c1_i32_84
  let v196 : BitVec 32 := Scalar.addi c0_i32_83 v195
  let c1_i32_86 : BitVec 32 := 1#32
  let arg12 : BitVec 32 := Scf.iv v196 c1_i32_86 k1_t8
  let v223 : Index := Scalar.indexCast arg12
  let c64_92 : Index := 64#32
  ![v223.toNat, 64]
def k1_off17 (v117 : BitVec 32) (k1_t8 : Fin (k1_t8_loop v117).trips) : Fin 2 → Nat :=
  let c0_i32_83 : BitVec 32 := 0#32
  let v192 : BitVec 32 := Scalar.subi v117 c0_i32_83
  let c1_i32_84 : BitVec 32 := 1#32
  let v194 : BitVec 32 := Scalar.divsi v192 c1_i32_84
  let v195 : BitVec 32 := Scalar.muli v194 c1_i32_84
  let v196 : BitVec 32 := Scalar.addi c0_i32_83 v195
  let c1_i32_86 : BitVec 32 := 1#32
  let arg12 : BitVec 32 := Scf.iv v196 c1_i32_86 k1_t8
  let v226 : Index := Scalar.indexCast arg12
  let c80_93 : Index := 80#32
  ![v226.toNat, 80]

def k1_chk1 (v117 : BitVec 32) : Prop :=
  ((k1_t3_loop v117).OK) ∧
  (∀ k1_t3 : Fin (k1_t3_loop v117).trips, ∀ a, (k1_off4 v117 k1_t3) a + S16.size a ≤ S224.size a) ∧
  ((k1_t4_loop v117).OK) ∧
  (∀ k1_t4 : Fin (k1_t4_loop v117).trips, ∀ a, (k1_off5 v117 k1_t4) a + S16.size a ≤ S224.size a) ∧
  ((k1_t5_loop v117).OK) ∧
  ((k1_t6_loop v117).OK) ∧
  ((k1_t7_loop v117).OK) ∧
  (∀ k1_t7 : Fin (k1_t7_loop v117).trips, ∀ a, (k1_off6 v117 k1_t7) a + S1x16.size a ≤ S224x128.size a) ∧
  (∀ k1_t7 : Fin (k1_t7_loop v117).trips, ∀ a, (k1_off7 v117 k1_t7) a + S1x16.size a ≤ S224x128.size a) ∧
  (∀ k1_t7 : Fin (k1_t7_loop v117).trips, ∀ a, (k1_off8 v117 k1_t7) a + S1x16.size a ≤ S224x128.size a) ∧
  (∀ k1_t7 : Fin (k1_t7_loop v117).trips, ∀ a, (k1_off9 v117 k1_t7) a + S1x16.size a ≤ S224x128.size a) ∧
  (∀ k1_t7 : Fin (k1_t7_loop v117).trips, ∀ a, (k1_off10 v117 k1_t7) a + S1x16.size a ≤ S224x128.size a) ∧
  (∀ k1_t7 : Fin (k1_t7_loop v117).trips, ∀ a, (k1_off11 v117 k1_t7) a + S1x16.size a ≤ S224x128.size a) ∧
  ((k1_t8_loop v117).OK) ∧
  (∀ k1_t8 : Fin (k1_t8_loop v117).trips, ∀ a, (k1_off12 v117 k1_t8) a + S1x16.size a ≤ S224x128.size a) ∧
  (∀ k1_t8 : Fin (k1_t8_loop v117).trips, ∀ a, (k1_off13 v117 k1_t8) a + S1x16.size a ≤ S224x128.size a) ∧
  (∀ k1_t8 : Fin (k1_t8_loop v117).trips, ∀ a, (k1_off14 v117 k1_t8) a + S1x16.size a ≤ S224x128.size a) ∧
  (∀ k1_t8 : Fin (k1_t8_loop v117).trips, ∀ a, (k1_off15 v117 k1_t8) a + S1x16.size a ≤ S224x128.size a) ∧
  (∀ k1_t8 : Fin (k1_t8_loop v117).trips, ∀ a, (k1_off16 v117 k1_t8) a + S1x16.size a ≤ S224x128.size a) ∧
  (∀ k1_t8 : Fin (k1_t8_loop v117).trips, ∀ a, (k1_off17 v117 k1_t8) a + S1x16.size a ≤ S224x128.size a)
theorem k1_t3_ok : ∀ (v117 : BitVec 32) (k1_hw1 : k1_chk1 v117), (k1_t3_loop v117).OK := fun v117 k1_hw1 => k1_hw1.1
theorem k1_off4_inb : ∀ (v117 : BitVec 32) (k1_hw1 : k1_chk1 v117) (k1_t3 : Fin (k1_t3_loop v117).trips), ∀ a, (k1_off4 v117 k1_t3) a + S16.size a ≤ S224.size a := fun v117 k1_hw1 k1_t3 => k1_hw1.2.1 k1_t3
theorem k1_t4_ok : ∀ (v117 : BitVec 32) (k1_hw1 : k1_chk1 v117), (k1_t4_loop v117).OK := fun v117 k1_hw1 => k1_hw1.2.2.1
theorem k1_off5_inb : ∀ (v117 : BitVec 32) (k1_hw1 : k1_chk1 v117) (k1_t4 : Fin (k1_t4_loop v117).trips), ∀ a, (k1_off5 v117 k1_t4) a + S16.size a ≤ S224.size a := fun v117 k1_hw1 k1_t4 => k1_hw1.2.2.2.1 k1_t4
theorem k1_t5_ok : ∀ (v117 : BitVec 32) (k1_hw1 : k1_chk1 v117), (k1_t5_loop v117).OK := fun v117 k1_hw1 => k1_hw1.2.2.2.2.1
theorem k1_t6_ok : ∀ (v117 : BitVec 32) (k1_hw1 : k1_chk1 v117), (k1_t6_loop v117).OK := fun v117 k1_hw1 => k1_hw1.2.2.2.2.2.1
theorem k1_t7_ok : ∀ (v117 : BitVec 32) (k1_hw1 : k1_chk1 v117), (k1_t7_loop v117).OK := fun v117 k1_hw1 => k1_hw1.2.2.2.2.2.2.1
theorem k1_off6_inb : ∀ (v117 : BitVec 32) (k1_hw1 : k1_chk1 v117) (k1_t7 : Fin (k1_t7_loop v117).trips), ∀ a, (k1_off6 v117 k1_t7) a + S1x16.size a ≤ S224x128.size a := fun v117 k1_hw1 k1_t7 => k1_hw1.2.2.2.2.2.2.2.1 k1_t7
theorem k1_off7_inb : ∀ (v117 : BitVec 32) (k1_hw1 : k1_chk1 v117) (k1_t7 : Fin (k1_t7_loop v117).trips), ∀ a, (k1_off7 v117 k1_t7) a + S1x16.size a ≤ S224x128.size a := fun v117 k1_hw1 k1_t7 => k1_hw1.2.2.2.2.2.2.2.2.1 k1_t7
theorem k1_off8_inb : ∀ (v117 : BitVec 32) (k1_hw1 : k1_chk1 v117) (k1_t7 : Fin (k1_t7_loop v117).trips), ∀ a, (k1_off8 v117 k1_t7) a + S1x16.size a ≤ S224x128.size a := fun v117 k1_hw1 k1_t7 => k1_hw1.2.2.2.2.2.2.2.2.2.1 k1_t7
theorem k1_off9_inb : ∀ (v117 : BitVec 32) (k1_hw1 : k1_chk1 v117) (k1_t7 : Fin (k1_t7_loop v117).trips), ∀ a, (k1_off9 v117 k1_t7) a + S1x16.size a ≤ S224x128.size a := fun v117 k1_hw1 k1_t7 => k1_hw1.2.2.2.2.2.2.2.2.2.2.1 k1_t7
theorem k1_off10_inb : ∀ (v117 : BitVec 32) (k1_hw1 : k1_chk1 v117) (k1_t7 : Fin (k1_t7_loop v117).trips), ∀ a, (k1_off10 v117 k1_t7) a + S1x16.size a ≤ S224x128.size a := fun v117 k1_hw1 k1_t7 => k1_hw1.2.2.2.2.2.2.2.2.2.2.2.1 k1_t7
theorem k1_off11_inb : ∀ (v117 : BitVec 32) (k1_hw1 : k1_chk1 v117) (k1_t7 : Fin (k1_t7_loop v117).trips), ∀ a, (k1_off11 v117 k1_t7) a + S1x16.size a ≤ S224x128.size a := fun v117 k1_hw1 k1_t7 => k1_hw1.2.2.2.2.2.2.2.2.2.2.2.2.1 k1_t7
theorem k1_t8_ok : ∀ (v117 : BitVec 32) (k1_hw1 : k1_chk1 v117), (k1_t8_loop v117).OK := fun v117 k1_hw1 => k1_hw1.2.2.2.2.2.2.2.2.2.2.2.2.2.1
theorem k1_off12_inb : ∀ (v117 : BitVec 32) (k1_hw1 : k1_chk1 v117) (k1_t8 : Fin (k1_t8_loop v117).trips), ∀ a, (k1_off12 v117 k1_t8) a + S1x16.size a ≤ S224x128.size a := fun v117 k1_hw1 k1_t8 => k1_hw1.2.2.2.2.2.2.2.2.2.2.2.2.2.2.1 k1_t8
theorem k1_off13_inb : ∀ (v117 : BitVec 32) (k1_hw1 : k1_chk1 v117) (k1_t8 : Fin (k1_t8_loop v117).trips), ∀ a, (k1_off13 v117 k1_t8) a + S1x16.size a ≤ S224x128.size a := fun v117 k1_hw1 k1_t8 => k1_hw1.2.2.2.2.2.2.2.2.2.2.2.2.2.2.2.1 k1_t8
theorem k1_off14_inb : ∀ (v117 : BitVec 32) (k1_hw1 : k1_chk1 v117) (k1_t8 : Fin (k1_t8_loop v117).trips), ∀ a, (k1_off14 v117 k1_t8) a + S1x16.size a ≤ S224x128.size a := fun v117 k1_hw1 k1_t8 => k1_hw1.2.2.2.2.2.2.2.2.2.2.2.2.2.2.2.2.1 k1_t8
theorem k1_off15_inb : ∀ (v117 : BitVec 32) (k1_hw1 : k1_chk1 v117) (k1_t8 : Fin (k1_t8_loop v117).trips), ∀ a, (k1_off15 v117 k1_t8) a + S1x16.size a ≤ S224x128.size a := fun v117 k1_hw1 k1_t8 => k1_hw1.2.2.2.2.2.2.2.2.2.2.2.2.2.2.2.2.2.1 k1_t8
theorem k1_off16_inb : ∀ (v117 : BitVec 32) (k1_hw1 : k1_chk1 v117) (k1_t8 : Fin (k1_t8_loop v117).trips), ∀ a, (k1_off16 v117 k1_t8) a + S1x16.size a ≤ S224x128.size a := fun v117 k1_hw1 k1_t8 => k1_hw1.2.2.2.2.2.2.2.2.2.2.2.2.2.2.2.2.2.2.1 k1_t8
theorem k1_off17_inb : ∀ (v117 : BitVec 32) (k1_hw1 : k1_chk1 v117) (k1_t8 : Fin (k1_t8_loop v117).trips), ∀ a, (k1_off17 v117 k1_t8) a + S1x16.size a ≤ S224x128.size a := fun v117 k1_hw1 k1_t8 => k1_hw1.2.2.2.2.2.2.2.2.2.2.2.2.2.2.2.2.2.2.2 k1_t8

def k1_off18 (k1_t2 : Fin k1_t2_loop.trips) : Fin 2 → Nat :=
  let c0_i32_4 : BitVec 32 := 0#32
  let c1_i32_6 : BitVec 32 := 1#32
  let arg10 : BitVec 32 := Scf.iv c0_i32_4 c1_i32_6 k1_t2
  let v199 : Index := Scalar.indexCast arg10
  let c0 : Index := 0#32
  ![v199.toNat, 0]
def k1_off19 (k1_t2 : Fin k1_t2_loop.trips) : Fin 2 → Nat :=
  let c0_i32_4 : BitVec 32 := 0#32
  let c1_i32_6 : BitVec 32 := 1#32
  let arg10 : BitVec 32 := Scf.iv c0_i32_4 c1_i32_6 k1_t2
  let v201 : Index := Scalar.indexCast arg10
  let c16 : Index := 16#32
  ![v201.toNat, 16]
def k1_off20 (k1_t2 : Fin k1_t2_loop.trips) : Fin 2 → Nat :=
  let c0_i32_4 : BitVec 32 := 0#32
  let c1_i32_6 : BitVec 32 := 1#32
  let arg10 : BitVec 32 := Scf.iv c0_i32_4 c1_i32_6 k1_t2
  let v203 : Index := Scalar.indexCast arg10
  let c32 : Index := 32#32
  ![v203.toNat, 32]
def k1_off21 (k1_t2 : Fin k1_t2_loop.trips) : Fin 2 → Nat :=
  let c0_i32_4 : BitVec 32 := 0#32
  let c1_i32_6 : BitVec 32 := 1#32
  let arg10 : BitVec 32 := Scf.iv c0_i32_4 c1_i32_6 k1_t2
  let v205 : Index := Scalar.indexCast arg10
  let c48 : Index := 48#32
  ![v205.toNat, 48]
def k1_off22 (k1_t2 : Fin k1_t2_loop.trips) : Fin 2 → Nat :=
  let c0_i32_4 : BitVec 32 := 0#32
  let c1_i32_6 : BitVec 32 := 1#32
  let arg10 : BitVec 32 := Scf.iv c0_i32_4 c1_i32_6 k1_t2
  let v207 : Index := Scalar.indexCast arg10
  let c64 : Index := 64#32
  ![v207.toNat, 64]
def k1_off23 (k1_t2 : Fin k1_t2_loop.trips) : Fin 2 → Nat :=
  let c0_i32_4 : BitVec 32 := 0#32
  let c1_i32_6 : BitVec 32 := 1#32
  let arg10 : BitVec 32 := Scf.iv c0_i32_4 c1_i32_6 k1_t2
  let v209 : Index := Scalar.indexCast arg10
  let c80 : Index := 80#32
  ![v209.toNat, 80]
def k1_off24 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_8 : BitVec 32 := 8#32
  let v10 : BitVec 32 := Scalar.muli v1 c8_i32_8
  let c0_i32_9_r1 : BitVec 32 := 0#32
  ![v10.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4x224x224x96 : Shape := ⟨4, ![4, 224, 224, 96]⟩
abbrev S4x64x4 : Shape := ⟨3, ![4, 64, 4]⟩
abbrev S224 : Shape := ⟨1, ![224]⟩
abbrev S224x1 : Shape := ⟨2, ![224, 1]⟩
abbrev S1x224 : Shape := ⟨2, ![1, 224]⟩
abbrev S4x64x1 : Shape := ⟨3, ![4, 64, 1]⟩
abbrev S4x64 : Shape := ⟨2, ![4, 64]⟩
abbrev S1x224x1 : Shape := ⟨3, ![1, 224, 1]⟩
abbrev S4x64x1x1 : Shape := ⟨4, ![4, 64, 1, 1]⟩
abbrev S1x1x224x1 : Shape := ⟨4, ![1, 1, 224, 1]⟩
abbrev S4x64x224x1 : Shape := ⟨4, ![4, 64, 224, 1]⟩
abbrev S1x1x224 : Shape := ⟨3, ![1, 1, 224]⟩
abbrev S1x1x1x224 : Shape := ⟨4, ![1, 1, 1, 224]⟩
abbrev S4x64x1x224 : Shape := ⟨4, ![4, 64, 1, 224]⟩
abbrev S4x64x224x224 : Shape := ⟨4, ![4, 64, 224, 224]⟩
abbrev S4x64x224x224x1 : Shape := ⟨5, ![4, 64, 224, 224, 1]⟩
abbrev S_ : Shape := ⟨0, ![]⟩
abbrev S4x64x224x224x96 : Shape := ⟨5, ![4, 64, 224, 224, 96]⟩
abbrev S224x224x96 : Shape := ⟨3, ![224, 224, 96]⟩
abbrev S64x224x224x96 : Shape := ⟨4, ![64, 224, 224, 96]⟩
abbrev S4x64x96 : Shape := ⟨3, ![4, 64, 96]⟩

abbrev nBuf : Space → Nat
  | .hbm => 57
  | .vmem => 0
  | .smem => 0
  | _ => 0

abbrev bufTy : (tb : Table) → Fin (tcTables nBuf tb) → BufTy
  | .hbm, ⟨0, _⟩ => ⟨S4x224x224x96, .f32⟩
  | .hbm, ⟨1, _⟩ => ⟨S4x64x4, .i32⟩
  | .hbm, ⟨2, _⟩ => ⟨S224, .i32⟩
  | .hbm, ⟨3, _⟩ => ⟨S224x1, .i32⟩
  | .hbm, ⟨4, _⟩ => ⟨S224, .i32⟩
  | .hbm, ⟨5, _⟩ => ⟨S1x224, .i32⟩
  | .hbm, ⟨6, _⟩ => ⟨S4x64x1, .i32⟩
  | .hbm, ⟨7, _⟩ => ⟨S4x64, .i32⟩
  | .hbm, ⟨8, _⟩ => ⟨S4x64x1, .i32⟩
  | .hbm, ⟨9, _⟩ => ⟨S4x64, .i32⟩
  | .hbm, ⟨10, _⟩ => ⟨S4x64x1, .i32⟩
  | .hbm, ⟨11, _⟩ => ⟨S4x64, .i32⟩
  | .hbm, ⟨12, _⟩ => ⟨S4x64x1, .i32⟩
  | .hbm, ⟨13, _⟩ => ⟨S4x64, .i32⟩
  | .hbm, ⟨14, _⟩ => ⟨S1x224x1, .i32⟩
  | .hbm, ⟨15, _⟩ => ⟨S4x64x1x1, .i32⟩
  | .hbm, ⟨16, _⟩ => ⟨S1x1x224x1, .i32⟩
  | .hbm, ⟨17, _⟩ => ⟨S4x64x224x1, .i32⟩
  | .hbm, ⟨18, _⟩ => ⟨S4x64x224x1, .i32⟩
  | .hbm, ⟨19, _⟩ => ⟨S4x64x224x1, .i1⟩
  | .hbm, ⟨20, _⟩ => ⟨S4x64, .i32⟩
  | .hbm, ⟨21, _⟩ => ⟨S1x224x1, .i32⟩
  | .hbm, ⟨22, _⟩ => ⟨S4x64x1x1, .i32⟩
  | .hbm, ⟨23, _⟩ => ⟨S1x1x224x1, .i32⟩
  | .hbm, ⟨24, _⟩ => ⟨S4x64x224x1, .i32⟩
  | .hbm, ⟨25, _⟩ => ⟨S4x64x224x1, .i32⟩
  | .hbm, ⟨26, _⟩ => ⟨S4x64x224x1, .i1⟩
  | .hbm, ⟨27, _⟩ => ⟨S4x64x224x1, .i1⟩
  | .hbm, ⟨28, _⟩ => ⟨S1x1x224, .i32⟩
  | .hbm, ⟨29, _⟩ => ⟨S4x64x1x1, .i32⟩
  | .hbm, ⟨30, _⟩ => ⟨S1x1x1x224, .i32⟩
  | .hbm, ⟨31, _⟩ => ⟨S4x64x1x224, .i32⟩
  | .hbm, ⟨32, _⟩ => ⟨S4x64x1x224, .i32⟩
  | .hbm, ⟨33, _⟩ => ⟨S4x64x1x224, .i1⟩
  | .hbm, ⟨34, _⟩ => ⟨S4x64x224x224, .i1⟩
  | .hbm, ⟨35, _⟩ => ⟨S4x64x224x224, .i1⟩
  | .hbm, ⟨36, _⟩ => ⟨S4x64x224x224, .i1⟩
  | .hbm, ⟨37, _⟩ => ⟨S4x64, .i32⟩
  | .hbm, ⟨38, _⟩ => ⟨S1x1x224, .i32⟩
  | .hbm, ⟨39, _⟩ => ⟨S4x64x1x1, .i32⟩
  | .hbm, ⟨40, _⟩ => ⟨S1x1x1x224, .i32⟩
  | .hbm, ⟨41, _⟩ => ⟨S4x64x1x224, .i32⟩
  | .hbm, ⟨42, _⟩ => ⟨S4x64x1x224, .i32⟩
  | .hbm, ⟨43, _⟩ => ⟨S4x64x1x224, .i1⟩
  | .hbm, ⟨44, _⟩ => ⟨S4x64x224x224, .i1⟩
  | .hbm, ⟨45, _⟩ => ⟨S4x64x224x224, .i1⟩
  | .hbm, ⟨46, _⟩ => ⟨S4x64x224x224x1, .i1⟩
  | .hbm, ⟨47, _⟩ => ⟨S_, .f32⟩
  | .hbm, ⟨48, _⟩ => ⟨S_, .f32⟩
  | .hbm, ⟨49, _⟩ => ⟨S4x64x224x224x96, .i1⟩
  | .hbm, ⟨50, _⟩ => ⟨S224x224x96, .f32⟩
  | .hbm, ⟨51, _⟩ => ⟨S64x224x224x96, .f32⟩
  | .hbm, ⟨52, _⟩ => ⟨S4x64x224x224x96, .f32⟩
  | .hbm, ⟨53, _⟩ => ⟨S4x64x224x224x96, .f32⟩
  | .hbm, ⟨54, _⟩ => ⟨S4x64x224x224x96, .f32⟩
  | .hbm, ⟨55, _⟩ => ⟨S_, .f32⟩
  | .hbm, ⟨56, _⟩ => ⟨S4x64x96, .f32⟩
  | _, _ => ⟨S4x224x224x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩
abbrev main_v28 : Ref sig .tc := ⟨.hbm, 30, rfl⟩
abbrev main_v29 : Ref sig .tc := ⟨.hbm, 31, rfl⟩
abbrev main_v30 : Ref sig .tc := ⟨.hbm, 32, rfl⟩
abbrev main_v31 : Ref sig .tc := ⟨.hbm, 33, rfl⟩
abbrev main_v32 : Ref sig .tc := ⟨.hbm, 34, rfl⟩
abbrev main_v33 : Ref sig .tc := ⟨.hbm, 35, rfl⟩
abbrev main_v34 : Ref sig .tc := ⟨.hbm, 36, rfl⟩
abbrev main_v35 : Ref sig .tc := ⟨.hbm, 37, rfl⟩
abbrev main_v36 : Ref sig .tc := ⟨.hbm, 38, rfl⟩
abbrev main_v37 : Ref sig .tc := ⟨.hbm, 39, rfl⟩
abbrev main_v38 : Ref sig .tc := ⟨.hbm, 40, rfl⟩
abbrev main_v39 : Ref sig .tc := ⟨.hbm, 41, rfl⟩
abbrev main_v40 : Ref sig .tc := ⟨.hbm, 42, rfl⟩
abbrev main_v41 : Ref sig .tc := ⟨.hbm, 43, rfl⟩
abbrev main_v42 : Ref sig .tc := ⟨.hbm, 44, rfl⟩
abbrev main_v43 : Ref sig .tc := ⟨.hbm, 45, rfl⟩
abbrev main_v44 : Ref sig .tc := ⟨.hbm, 46, rfl⟩
abbrev main_cst : Ref sig .tc := ⟨.hbm, 47, rfl⟩
abbrev main_call0_v0 : Ref sig .tc := ⟨.hbm, 48, rfl⟩
abbrev main_call0_v1 : Ref sig .tc := ⟨.hbm, 49, rfl⟩
abbrev main_call0_v2 : Ref sig .tc := ⟨.hbm, 50, rfl⟩
abbrev main_call0_v3 : Ref sig .tc := ⟨.hbm, 51, rfl⟩
abbrev main_call0_v4 : Ref sig .tc := ⟨.hbm, 52, rfl⟩
abbrev main_call0_v5 : Ref sig .tc := ⟨.hbm, 53, rfl⟩
abbrev main_v45 : Ref sig .tc := ⟨.hbm, 54, rfl⟩
abbrev main_cst_0 : Ref sig .tc := ⟨.hbm, 55, rfl⟩
abbrev main_v46 : Ref sig .tc := ⟨.hbm, 56, rfl⟩

abbrev nD : Nat := 1
abbrev τ : Topo := Topo.v7x

variable {F : FTy → Type} [FloatOps F]
-- ==== Proof.Words.lean ====
/-
  Small non-negative 32-bit words: the operations of the tile program's index arithmetic on the words of natural
  numbers, and the sample positions they compute.
-/
module

public import Idealize.ShloMosaic.Lib.WordArith

@[expose] public section

noncomputable section

namespace Cert.PoolWords

open Idealize.ShloMosaic

/-! ## Words of natural numbers -/

theorem toInt_nat {a : ℕ} (h : a < 2 ^ 31) : (BitVec.ofNat 32 a).toInt = (a : ℤ) := by
  rw [BitVec.toInt_eq_toNat_cond, BitVec.toNat_ofNat, Nat.mod_eq_of_lt (by omega)]
  split <;> omega

theorem toNat_nat {a : ℕ} (h : a < 2 ^ 31) : (BitVec.ofNat 32 a).toNat = a := by
  rw [BitVec.toNat_ofNat, Nat.mod_eq_of_lt (by omega)]

theorem addi_nat (a b : ℕ) : IntOp.addi (BitVec.ofNat 32 a) (BitVec.ofNat 32 b) = BitVec.ofNat 32 (a + b) := by
  unfold IntOp.addi; exact (BitVec.ofNat_add a b).symm

theorem muli_nat (a b : ℕ) : IntOp.muli (BitVec.ofNat 32 a) (BitVec.ofNat 32 b) = BitVec.ofNat 32 (a * b) := by
  unfold IntOp.muli; exact (BitVec.ofNat_mul a b).symm

theorem subi_nat {a b : ℕ} (h : b ≤ a) : IntOp.subi (BitVec.ofNat 32 a) (BitVec.ofNat 32 b) = BitVec.ofNat 32 (a - b) := by
  unfold IntOp.subi
  have e : BitVec.ofNat 32 a = BitVec.ofNat 32 (a - b) + BitVec.ofNat 32 b := by
    rw [← BitVec.ofNat_add]; congr 1; omega
  rw [e, BitVec.add_sub_cancel]

theorem slt_nat {a b : ℕ} (ha : a < 2 ^ 31) (hb : b < 2 ^ 31) :
    (BitVec.ofNat 32 a).slt (BitVec.ofNat 32 b) = decide (a < b) := by
  rw [BitVec.slt_eq_decide, toInt_nat ha, toInt_nat hb]; simp

theorem minsi_nat {a b : ℕ} (ha : a < 2 ^ 31) (hb : b < 2 ^ 31) :
    IntOp.minsi (BitVec.ofNat 32 a) (BitVec.ofNat 32 b) = BitVec.ofNat 32 (min a b) := by
  unfold IntOp.minsi
  rw [slt_nat ha hb]
  by_cases h : a < b
  · rw [if_pos (by simpa using h), Nat.min_eq_left h.le]
  · rw [if_neg (by simpa using h), Nat.min_eq_right (by omega)]

/-- The sign of a word: the bit of `x > 0` less the bit of `x < 0`, both widened. -/
def sgnW (x : BitVec 32) : BitVec 32 :=
  IntOp.subi ((IntOp.cmpi .sgt x 0#32).setWidth 32) ((IntOp.cmpi .slt x 0#32).setWidth 32)

theorem sgnW_pos {a : ℕ} (h0 : 0 < a) (h : a < 2 ^ 31) : sgnW (BitVec.ofNat 32 a) = 1#32 := by
  have h1 : (0#32 : BitVec 32).slt (BitVec.ofNat 32 a) = true := by
    rw [show (0#32 : BitVec 32) = BitVec.ofNat 32 0 from rfl, slt_nat (by omega) h]; simpa using h0
  have h2 : (BitVec.ofNat 32 a).slt 0#32 = false := by
    rw [show (0#32 : BitVec 32) = BitVec.ofNat 32 0 from rfl, slt_nat h (by omega)]; simp
  unfold sgnW IntOp.cmpi
  simp only [h1, h2]
  decide

/-- The floor division of two words as the kernel's source lowers: the quotient, less one when the signs differ and
the remainder is not zero. -/
def floorDivW (u : ArithUnit) (x y : BitVec 32) : BitVec 32 :=
  Scalar.select
    (IntOp.andi (IntOp.cmpi .ne (sgnW x) (sgnW y)) (IntOp.cmpi .ne (IntOp.remsi u x y) 0#32))
    (IntOp.subi (IntOp.divsi u x y) 1#32) (IntOp.divsi u x y)

theorem not_corner {a b : ℕ} (ha : a < 2 ^ 31) (hb0 : 0 < b) (hb : b < 2 ^ 31) :
    ¬ IntOp.SDivCorner (BitVec.ofNat 32 a) (BitVec.ofNat 32 b) := by
  rintro (h | ⟨h, -⟩)
  · have := congrArg BitVec.toNat h
    rw [toNat_nat hb] at this
    simp at this; omega
  · have := congrArg BitVec.toNat h
    rw [toNat_nat ha] at this
    simp [BitVec.toNat_intMin] at this; omega

theorem divsi_nat (u : ArithUnit) {a b : ℕ} (ha : a < 2 ^ 31) (hb0 : 0 < b) (hb : b < 2 ^ 31) :
    IntOp.divsi u (BitVec.ofNat 32 a) (BitVec.ofNat 32 b) = BitVec.ofNat 32 (a / b) := by
  unfold IntOp.divsi
  rw [if_neg (not_corner ha hb0 hb)]
  have hd : a / b < 2 ^ 31 := lt_of_le_of_lt (Nat.div_le_self a b) ha
  apply BitVec.eq_of_toInt_eq
  rw [BitVec.toInt_sdiv_of_ne_or_ne, toInt_nat ha, toInt_nat hb, toInt_nat hd]
  · exact (Int.ofNat_tdiv a b).symm
  · left
    intro h
    exact not_corner ha hb0 hb (h ▸ absurd h (by
      intro h'
      have := congrArg BitVec.toNat h'
      rw [toNat_nat ha] at this
      simp [BitVec.toNat_intMin] at this; omega))

theorem floorDivW_nat (u : ArithUnit) {a b : ℕ} (ha : a < 2 ^ 31) (hb0 : 0 < b) (hb : b < 2 ^ 31) :
    floorDivW u (BitVec.ofNat 32 a) (BitVec.ofNat 32 b) = BitVec.ofNat 32 (a / b) := by
  unfold floorDivW
  rw [divsi_nat u ha hb0 hb]
  have hz : IntOp.andi (IntOp.cmpi .ne (sgnW (BitVec.ofNat 32 a)) (sgnW (BitVec.ofNat 32 b)))
      (IntOp.cmpi .ne (IntOp.remsi u (BitVec.ofNat 32 a) (BitVec.ofNat 32 b)) 0#32) ≠ 1 := by
    rcases Nat.eq_zero_or_pos a with rfl | h0
    · have hr : IntOp.remsi u (BitVec.ofNat 32 0) (BitVec.ofNat 32 b) = 0#32 := by
        unfold IntOp.remsi
        rw [if_neg (not_corner (by omega) hb0 hb)]
        exact BitVec.zero_srem
      rw [hr]
      unfold IntOp.andi
      have e : IntOp.cmpi .ne (0#32 : BitVec 32) 0#32 = 0#1 := by decide
      rw [e, BitVec.and_zero]; decide
    · rw [sgnW_pos h0 ha, sgnW_pos hb0 hb]
      unfold IntOp.andi
      have e : IntOp.cmpi .ne (1#32 : BitVec 32) 1#32 = 0#1 := by decide
      rw [e, BitVec.zero_and]; decide
  unfold Scalar.select
  rw [if_neg hz]

/-! ## The sample positions of one box -/

/-- How many samples of step eight cover an extent `e` (at least eight) less eight. -/
def steps (e : ℕ) : ℕ := (e - 8 + 7) / 8 + 1

/-- How many window maxima a box of width `w` and height `h` is covered by. -/
def cntOf (w h : ℕ) : ℕ := steps h * steps w

/-- The row of the table that sample `k` of the box at column `x`, row `y`, of width `w` and height `h`, of image `g`
reads. -/
def idxOf (g x y w h k : ℕ) : ℕ :=
  g * 50176 + (y + min (k / steps w * 8) (h - 8)) * 224 + (x + min ((k - k / steps w * steps w) * 8) (w - 8))

theorem steps_pos (e : ℕ) : 0 < steps e := Nat.succ_pos _

theorem steps_le {e : ℕ} (he : e < 112) : steps e ≤ 14 := by unfold steps; omega

theorem cntOf_pos (w h : ℕ) : 0 < cntOf w h := Nat.mul_pos (steps_pos h) (steps_pos w)

theorem cntOf_le {w h : ℕ} (hw : w < 112) (hh : h < 112) : cntOf w h ≤ 196 :=
  (Nat.mul_le_mul (steps_le hh) (steps_le hw)).trans (by decide)

theorem idxOf_lt {g x y w h : ℕ} (hg : g < 4) (hx : x < 112) (hy : y < 112) (hw : w < 112) (hh : h < 112) (k : ℕ) :
    idxOf g x y w h k < 200704 := by
  unfold idxOf
  have h1 : min (k / steps w * 8) (h - 8) ≤ 104 := (Nat.min_le_right _ _).trans (by omega)
  have h2 : min ((k - k / steps w * steps w) * 8) (w - 8) ≤ 104 := (Nat.min_le_right _ _).trans (by omega)
  omega

/-- A list of words: its first `cnt` entries are the table rows of the samples, in order. -/
def entryOf (g x y w h k : ℕ) : ℕ := idxOf g x y w h (min k (cntOf w h - 1))

theorem entryOf_lt {g x y w h : ℕ} (hg : g < 4) (hx : x < 112) (hy : y < 112) (hw : w < 112) (hh : h < 112) (k : ℕ) :
    entryOf g x y w h k < 200704 := idxOf_lt hg hx hy hw hh _

theorem entryOf_eq {g x y w h k : ℕ} (hk : k < cntOf w h) : entryOf g x y w h k = idxOf g x y w h k := by
  unfold entryOf; rw [Nat.min_eq_left (by omega)]

end Cert.PoolWords
-- ==== Proof.GatherBatch.lean ====
/-
  Several indirect gathers in flight on one DMA semaphore.

  Each gather transfers the rows an offset list names; the rows of all the gathers are counted as ONE batch of equal
  transfers, numbered through: the gather issued when `k` rows are already out takes the numbers `k, …, k + o - 1`.
  `wp_gatherInBatch` is the issue of one such gather: the caller holds, per pending row, a resource `R t` out of which
  row `t`'s element of the list, its share of the source and its row of the destination can be taken (`hR`), and what
  the row's transfer gives back entails the batch's delivery `D t` (`hD`).
-/
module

public import Idealize.ShloMosaic.Lib.Batch
public import Idealize.ShloMosaic.Lib.SparseCore.Stream

@[expose] public section

noncomputable section

namespace Cert.GatherBatch

open Idealize.ShloMosaic
open Idealize.SL
open Idealize.SL.BI (sProp Storable bigSep bigSep_insert bigSep_congr bigSep_map bigSep_empty)
open scoped Idealize.SL.BI
open Idealize.SL.BI.BIBase Idealize.SL.BI.Laws Idealize.SL.Sem Idealize.SL.ProofMode
open Idealize.SL.RA
open Idealize.ShloMosaic.Transfers Idealize.ShloMosaic.SparseCore

variable {nD : Nat} {τ : Topo} {sig : RefSig} {Ix : Type} [DecidableEq Ix]
variable {F : FTy → Type} {Name : Type} [DecidableEq Name]
variable {U : Type} [URA U] {Lvl : Type} [Preorder Lvl] {Λ : Labels}

local notation "𝕄" => MT nD τ sig Ix (Elt F) Name U Lvl

omit [DecidableEq Ix] [DecidableEq Name] [URA U] [Preorder Lvl] in
/-- A separating product over `Fin (m + 1)` is the first factor and the product over the rest. -/
theorem bigSep_fin_succ {M : Type} [URA M] {m : ℕ} (Φ : Fin (m + 1) → sProp M) :
    bigSep Finset.univ Φ = iprop(Φ 0 ∗ bigSep Finset.univ fun j : Fin m => Φ j.succ) := by
  rw [Fin.univ_succ, Finset.cons_eq_insert, bigSep_insert (by simp), bigSep_map]
  rfl

/-- The next `m` pending factors, split off. -/
theorem bigSep_pending_take {M : Type} [URA M] {n : ℕ} (m : ℕ) :
    ∀ (k : ℕ) (hk : k + m ≤ n) (Φ : Fin n → sProp M),
      bigSep (pending k) Φ
        = iprop((bigSep Finset.univ fun j : Fin m => Φ ⟨k + j.val, by have := j.isLt; omega⟩) ∗ bigSep (pending (k + m)) Φ) := by
  induction m with
  | zero =>
    intro k hk Φ
    rw [Finset.univ_eq_empty, bigSep_empty]
    exact (Idealize.SL.BI.equiv_iff.mp Idealize.SL.BI.emp_sep).symm
  | succ m ih =>
    intro k hk Φ
    rw [pending_succ (show k < n by omega), bigSep_insert (not_mem_pending_succ (show k < n by omega)),
      ih (k + 1) (by omega) Φ, bigSep_fin_succ]
    have e : (fun j : Fin m => Φ ⟨k + 1 + j.val, by have := j.isLt; omega⟩)
        = fun j : Fin m => Φ ⟨k + (j.succ).val, by have := j.isLt; simp only [Fin.val_succ]; omega⟩ := by
      funext j; congr 2; simp only [Fin.val_succ]; omega
    have e' : bigSep (pending (k + 1 + m)) Φ = bigSep (pending (k + (m + 1))) Φ := by
      rw [show k + 1 + m = k + (m + 1) by omega]
    rw [e, e']
    exact (BI.Entails.antisymm Idealize.SL.BI.sep_assoc Idealize.SL.BI.sep_assoc').symm

variable {defs : Defs nD τ sig (Elt F) Λ} (EC : UEmb Counters (MT nD τ sig Ix (Elt F) Name U Lvl)) (𝒱 : Variants) (c : Thread nD τ) (bd : Option 𝒱.V)
variable {sp : Space} {s₀ s si : Shape} {e : EltTy} {a : Nat} {α : Type} {Q : α → sProp (MT nD τ sig Ix (Elt F) Name U Lvl)}

/-- The issue of one gather of a batch (the header). -/
theorem wp_gatherInBatch [Infinite Name] [EC.LandsIn (upEmb : UEmb _ 𝕄)]
    {src : Memref sig c.2.kind sp s₀ e} {dst : Memref sig c.2.kind .vmem s e} {hg : s₀.Gathers a s}
    {offs : Memref sig c.2.kind .vmem si .i32} {hn : si.numel = s.size hg.axis'} {sem : DmaSem sig}
    {hp : c.2.kind = .scVector} {hsrc : src.view.WordExact} {he : e.bits = 32} {hsp : sp = .hbm ∨ sp = .shared} {hr : s₀.StreamRows a}
    {k : PUnit → Prog (TpuEff nD τ sig (Elt F) Λ c.2) α}
    {qo : PosShare TreeShare} {fo : Buf (Elt F) (offs.view.loc c)}
    {fs : Buf (Elt F) (src.view.loc c)} {fd : Buf (Elt F) (dst.view.loc c)}
    (hin : ∀ x, (offs.view.read (Elt F) fo x).toNat < s₀.size hg.axis)
    (ι : Ix) (N : ℕ)
    (hN : ∀ j, (dst.slice (s.rowRect hg.axis' j) (s.stride_rowRect hg.axis' j)).view.dmaCredit = N)
    {n k₀ u : ℕ} (hk : k₀ + s.size hg.axis' ≤ n) (hu : u ≤ k₀ * N)
    {R D : Fin n → sProp 𝕄} (qs : Fin (s.size hg.axis') → PosShare TreeShare)
    (hR : ∀ j : Fin (s.size hg.axis'), R ⟨k₀ + j.val, by have := j.isLt; omega⟩
      ⊢ iprop((dst.view.loc c ↦[(dst.view.slice (s.rowRect hg.axis' j)).set]{fullShare} fd)
          ∗ (offs.view.loc c ↦[{offs.view.emb (si.rowMajor.symm (j.cast hn.symm))}]{qo} fo)
          ∗ (src.view.loc c ↦[src.view.set]{qs j} fs)))
    (hD : ∀ j : Fin (s.size hg.axis'),
      iprop((dst.view.loc c ↦[(dst.view.slice (s.rowRect hg.axis' j)).set]{fullShare}
            ((dst.view.slice (s.rowRect hg.axis' j)).write (Elt F) fd
              (fun i => src.view.read (Elt F) fs (hg.rowIdx (rows (offs.view.read (Elt F) fo) hn hin j) i)) Finset.univ))
          ∗ (offs.view.loc c ↦[{offs.view.emb (si.rowMajor.symm (j.cast hn.symm))}]{qo} fo)
          ∗ (src.view.loc c ↦[src.view.set]{qs j} fs)) ⊢ D ⟨k₀ + j.val, by have := j.isLt; omega⟩) :
    iprop(Batch EC c (.dma sem) ι N D k₀ u ∗ bigSep (pending k₀) R)
      ⊢ iprop((iprop(Batch EC c (.dma sem) ι N D (k₀ + s.size hg.axis') u ∗ bigSep (pending (k₀ + s.size hg.axis')) R)
              -∗ wp frame (wpE defs 𝒱 c bd) Set.univ (k ⟨⟩) Q)
          -∗ wp frame (wpE defs 𝒱 c bd) Set.univ (enqueueIndirectGather hp src dst hg offs hn sem hsrc he hsp hr >>= k) Q) := by
  rw [enqueueIndirectGather_bind]
  let S : Stream nD τ sig (Elt F) :=
    Stream.issued c offs.view hn sem (fun j w => (rowOf (s₀.size hg.axis) w).map (gatherRow c src dst hg sem hsrc he hsp hr j)) 0
  let r : Fin (s.size hg.axis') → Fin (s₀.size hg.axis) := rows (offs.view.read (Elt F) fo) hn hin
  let rd : Fin (s.size hg.axis') → RowDma τ sig (Elt F) c.2 sem := fun j => gatherRow c src dst hg sem hsrc he hsp hr j (r j)
  let w : (j : Fin (s.size hg.axis')) → (s.rowShape hg.axis').Idx → Elt F e := fun j i => src.view.read (Elt F) fs (hg.rowIdx (r j) i)
  have hA : S.RowsAgree := by
    intro j x x' ρ ρ' h h'
    obtain ⟨_, _, rfl⟩ := Option.map_eq_some_iff.mp h
    obtain ⟨_, _, rfl⟩ := Option.map_eq_some_iff.mp h'
    rfl
  have hrd : ∀ j, S.row j (S.word fo j) = some (rd j) := fun j => by
    change (rowOf (s₀.size hg.axis) (offs.view.read (Elt F) fo (S.entry j))).map _ = _
    rw [rowOf_of_lt (hin _)]; rfl
  have hsum : ∑ j, (dst.slice (s.rowRect hg.axis' j) (s.stride_rowRect hg.axis' j)).view.dmaCredit = s.size hg.axis' * N :=
    sum_rowCredit_eq _ hN rfl
  unfold Batch
  iintro ⟨⟨%γ, %γ₀, %κ, #Hinv, HI, H0, Hcred⟩, HR⟩ Hk
  ihave HI' := (Entails.of_eq (bigSep_pending_take (s.size hg.axis') k₀ hk (fun t => (count EC (γ t) 0 : sProp 𝕄)))) $$ HI
  icases HI' with ⟨Hc, HI⟩
  ihave HR' := (Entails.of_eq (bigSep_pending_take (s.size hg.axis') k₀ hk R)) $$ HR
  icases HR' with ⟨HRc, HR⟩
  iapply (wp_enqueueIndirectDma 𝒱 c bd Set.univ (qo := qo) (fo := fo) (rd := rd) ι (s.size hg.axis' * N) hA hrd hsum) $$ [Hc HRc]
  · have hrow : ∀ j : Fin (s.size hg.axis'), iprop(inv κ (batchBody EC (c, SemLoc.dma sem) N D γ γ₀)
          ∗ (R ⟨k₀ + j.val, by have := j.isLt; omega⟩ ∗ count EC (γ ⟨k₀ + j.val, by have := j.isLt; omega⟩) 0))
        ⊢ iprop(S.heldEntry qo fo j ∗ (S.heldEntry qo fo j -∗ rowRes c (rd j))) := fun j => by
      iintro ⟨#Hinv, HRj, Hγj⟩
      ihave H := hR j $$ HRj
      icases H with ⟨Hr, He, Hsq⟩
      isplitl [He]; · iexact He
      iintro He
      unfold rowRes
      iexists qs j, fs, iprop((dst.view.loc c ↦[(dst.view.slice (s.rowRect hg.axis' j)).set]{fullShare} ((dst.view.slice (s.rowRect hg.axis' j)).write (Elt F) fd (w j) Finset.univ)) ∗ S.heldEntry qo fo j)
      isplitl [Hsq]; · iexact Hsq
      isplitl [Hr He]
      · iapply writeUpdate_frame
        isplitl [Hr]
        · iapply (pointsTo_writeUpdate c (v := dst.view.slice (s.rowRect hg.axis' j)) subset_rfl) $$ Hr
        · iexact He
      · have hcu : iprop(inv κ (batchBody EC (c, SemLoc.dma sem) N D γ γ₀) ∗ count EC (γ ⟨k₀ + j.val, by have := j.isLt; omega⟩) 0)
            ⊢ creditUpdate (c, SemLoc.dma sem) (rd j).dst.view.dmaCredit 0
              iprop(((dst.view.loc c ↦[(dst.view.slice (s.rowRect hg.axis' j)).set]{fullShare} ((dst.view.slice (s.rowRect hg.axis' j)).write (Elt F) fd (w j) Finset.univ))
                ∗ S.heldEntry qo fo j) ∗ ((rd j).src.view.loc c ↦[(rd j).src.view.set]{qs j} fs)) := by
          rw [show (rd j).dst.view.dmaCredit = N from hN j]
          exact batch_creditUpdate EC (g := (c, SemLoc.dma sem)) ⟨k₀ + j.val, by have := j.isLt; omega⟩ (sep_assoc.1.trans (hD j))
        iapply hcu
        isplitr; · iexact Hinv
        iexact Hγj
    unfold Stream.res
    ihave H1 := Transfers.bigSep_sep_in _ _ _ $$ [HRc Hc]; · isplitl [HRc] <;> iassumption
    iapply (Transfers.bigSep_mono_pers Finset.univ _ _ _ fun j _ => hrow j)
    isplitr; · iexact Hinv
    iexact H1
  · iintro Hcred'
    iapply Hk
    isplitr [HR]
    · iexists γ, γ₀, κ
      isplitr; · iexact Hinv
      isplitl [HI]; · iexact HI
      isplitl [H0]; · iexact H0
      rw [show (k₀ + s.size hg.axis') * N - u = (k₀ * N - u) + s.size hg.axis' * N by rw [Nat.add_mul]; omega, ← tallyAt_add]
      icombine Hcred Hcred' as H
      iexact H
    · iexact HR

end Cert.GatherBatch

end
-- ==== Proof.Bounds.lean ====
module

public import proofs.«01_k».proof.Proof.Gen.Pre_in_range
public import Idealize.ShloMosaic.Lib.ReduceAll

@[expose] public section

noncomputable section

namespace Cert.PoolBounds

open Idealize.ShloMosaic Cert.Pre_in_range Cert.Pre_in_range.Gen

/-- Word `k` of box `r` of image `g`. -/
abbrev at3 (g : Fin 4) (r : Fin 64) (k : Fin 4) : S4x64x4.Idx := fun | 0 => g | 1 => r | 2 => k
abbrev at2 (g : Fin 4) (r : Fin 64) (k : Fin 2) : S4x64x2.Idx := fun | 0 => g | 1 => r | 2 => k

theorem both {lo hi v : BitVec 32} (hlo : lo.toNat < 2 ^ 31) (hhi : hi.toNat < 2 ^ 31)
    (e : IntOp.andi (IntOp.cmpi .sge v lo) (IntOp.cmpi .slt v hi) = 1#1) : lo.toNat ≤ v.toNat ∧ v.toNat < hi.toNat := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  have hv := v.isLt
  simp only [IntOp.cmpi, andi_ofBool, ofBool_eq_one, Bool.and_eq_true, BitVec.sle_eq_decide, BitVec.slt_eq_decide,
    decide_eq_true_eq, BitVec.toInt_eq_toNat_cond] at e
  split_ifs at e <;> omega

instance : Subsingleton S_.Idx := ⟨fun a b => funext fun i => i.elim0⟩

/-- The stated range, read off the predicate: corners under 112, sizes from 8 to 111. -/
theorem bounds {F : FTy → Type} [FloatOps F] (img : FVec F S4x224x224x96 .f32) (rois : IVec S4x64x4 32)
    (h : Cert.Pre_in_range.fn img rois = fun _ => 1#1) (g : Fin 4) (r : Fin 64) :
    ((rois (at3 g r 0)).toNat < 112 ∧ (rois (at3 g r 1)).toNat < 112)
      ∧ (8 ≤ (rois (at3 g r 2)).toNat ∧ (rois (at3 g r 2)).toNat < 112) ∧ (8 ≤ (rois (at3 g r 3)).toNat ∧ (rois (at3 g r 3)).toNat < 112) := by
  have e := congrFun h (fun i => i.elim0)
  dsimp only [Cert.Pre_in_range.fn, andi] at e
  obtain ⟨e1, e2⟩ := IntOp.andi_eq_one.1 e
  have f1 := fun i => Host.reduce_andi_all _ _ _ _ _ e1 i
  have f2 := fun i => Host.reduce_andi_all _ _ _ _ _ e2 i
  have k1 : ∀ k : Fin 2, (rois (at3 g r (k.castLE (by decide)))).toNat < 112 := fun k => by
    have h1 := (both (v := rois (at3 g r (k.castLE (by decide)))) (lo := 0#32) (hi := 112#32) (by decide) (by decide) ?_).2
    · exact h1
    · refine Eq.trans ?_ (f1 (at2 g r k))
      have hx : extractStridedSlice S4x64x2 ![0, 0, 0] rois Facts.slices_S4x64x4_S4x64x2_0_0_0 (at2 g r k) = rois (at3 g r (k.castLE (by decide))) := by
        unfold extractStridedSlice
        congr 1
        funext a
        match a with
        | 0 => exact Fin.ext (by simp [at2, at3])
        | 1 => exact Fin.ext (by simp [at2, at3])
        | 2 => exact Fin.ext (by simp [at2, at3])
      simp only [andi, cmpi, broadcastInDim, constantI, hx]
  have k2 : ∀ k : Fin 2, 8 ≤ (rois (at3 g r ⟨2 + k.val, by omega⟩)).toNat ∧ (rois (at3 g r ⟨2 + k.val, by omega⟩)).toNat < 112 := fun k => by
    refine both (v := rois (at3 g r ⟨2 + k.val, by omega⟩)) (lo := 8#32) (hi := 112#32) (by decide) (by decide) ?_
    refine Eq.trans ?_ (f2 (at2 g r k))
    have hx : extractStridedSlice S4x64x2 ![0, 0, 2] rois Facts.slices_S4x64x4_S4x64x2_0_0_2 (at2 g r k) = rois (at3 g r ⟨2 + k.val, by omega⟩) := by
      unfold extractStridedSlice
      congr 1
      funext a
      match a with
      | 0 => exact Fin.ext (by simp [at2, at3])
      | 1 => exact Fin.ext (by simp [at2, at3])
      | 2 => exact Fin.ext (by simp [at2, at3])
    simp only [andi, cmpi, broadcastInDim, constantI, hx]
  exact ⟨⟨k1 0, k1 1⟩, k2 0, k2 1⟩

end Cert.PoolBounds
-- ==== Proof.Final.lean ====
module

public import proofs.«01_k».proof.Proof.Main
public import proofs.«01_k».proof.Proof.Bounds

@[expose] public section

noncomputable section

namespace Cert.Kernel.Pool

open Cert.Kernel Cert.Kernel.Gen Idealize.ShloMosaic Idealize.ShloMosaic.TcCoe

variable {F : FTy → Type} [FloatOps F]

/-- The stated range of the boxes, as the run wants it. -/
theorem inRange_of_pre (img : FVec F S4x224x224x96 .f32) (rois : IVec S4x64x4 32)
    (h : Cert.Pre_in_range.fn img rois = fun _ => 1#1) : InRange (numAt rois) := by
  intro n hn
  have hb := Cert.PoolBounds.bounds img rois h (Fin.ofNat 4 (n / 64)) (Fin.ofNat 64 (n % 64))
  have key : ∀ (k : ℕ) (hk : k < 4), numAt rois (4 * n + k) = (rois (Cert.PoolBounds.at3 (Fin.ofNat 4 (n / 64)) (Fin.ofNat 64 (n % 64)) ⟨k, hk⟩)).toNat := by
    intro k hk
    unfold numAt
    congr 2
    funext a
    match a with
    | 0 => exact congrArg (Fin.ofNat 4) (by omega)
    | 1 => exact congrArg (Fin.ofNat 64) (by omega)
    | 2 => exact Fin.ext (show (4 * n + k) % 4 % 4 = k by omega)
  rw [show 4 * n = 4 * n + 0 from rfl, key 0 (by decide), Nat.add_zero, key 1 (by decide), key 2 (by decide), key 3 (by decide)]
  exact ⟨hb.1.1, hb.1.2, hb.2.1, hb.2.2⟩

end Cert.Kernel.Pool
-- ==== Proof.IdealArith.lean ====
/-
  The tile program's index arithmetic: the values its integer operations compute on the words of one region of
  interest, the trip counts of its loops and the offsets its loads and stores take.
-/
module

public import proofs.«01_k».proof.Proof.Words
public import proofs.«01_k».proof.Proof.Gen.KernelIdeal
public import proofs.«01_k».proof.Proof.Gen.KernelIdeal.Skeleton

@[expose] public section

set_option maxRecDepth 16384

noncomputable section

namespace Cert.KernelIdeal.Arith

open Idealize.ShloMosaic
open Cert.KernelIdeal Cert.KernelIdeal.Gen Cert.PoolWords

variable {F : FTy → Type} [FloatOps F]

/-- Sixteen lanes of the word of a natural number. -/
def wv (n : ℕ) : IVec S16 32 := fun _ => BitVec.ofNat 32 n

theorem pay4_eq {w : ℕ} (h : 8 ≤ w) : k1_pay4 (F := F) (wv w) = wv (w - 8) := by
  funext i; exact subi_nat h

theorem pay5_eq {w : ℕ} (h : 8 ≤ w) : k1_pay5 (F := F) (wv w) = wv (w - 8) := by
  funext i; exact subi_nat h

theorem pay6_eq {w : ℕ} (h : w < 112) : k1_pay6 (wv (w - 8)) = wv (steps w) := by
  funext i
  show IntOp.addi (floorDivW .vector (IntOp.addi (BitVec.ofNat 32 (w - 8)) (BitVec.ofNat 32 7)) (BitVec.ofNat 32 8))
    (BitVec.ofNat 32 1) = _
  rw [addi_nat, floorDivW_nat _ (by omega) (by omega) (by omega), addi_nat]
  rfl

theorem pay10_eq {w h : ℕ} (hh : h < 112) :
    k1_pay10 (wv (steps w)) (k1_pay7 (wv (h - 8))) 8#32 (k1_pay8 (wv (h - 8))) (k1_pay9 (wv (h - 8))) = wv (cntOf w h) := by
  funext i
  show IntOp.muli (IntOp.addi (floorDivW .vector (IntOp.addi (BitVec.ofNat 32 (h - 8)) (BitVec.ofNat 32 7)) (BitVec.ofNat 32 8))
    (BitVec.ofNat 32 1)) (BitVec.ofNat 32 (steps w)) = _
  rw [addi_nat, floorDivW_nat _ (by omega) (by omega) (by omega), addi_nat, muli_nat]
  rfl

/-- A running maximum over equal words keeps the word. -/
theorem foldl_max_const {α : Type} (c : BitVec 32) (l : List α) :
    l.foldl (fun r _ => IntOp.maxui r c) c = c := by
  induction l with
  | nil => rfl
  | cons a l ih =>
    rw [List.foldl_cons]
    have e : IntOp.maxui c c = c := by unfold IntOp.maxui; split <;> rfl
    rw [e]; exact ih

theorem pay11_eq {w h : ℕ} (hh : h < 112) :
    k1_pay11 (wv (steps w)) (k1_pay7 (wv (h - 8))) 8#32 (k1_pay8 (wv (h - 8))) (k1_pay9 (wv (h - 8))) = wv (cntOf w h) := by
  unfold k1_pay11
  rw [pay10_eq hh]
  funext i
  show IntOp.xori (scan .max (fun _ => IntOp.xori (BitVec.ofNat 32 (cntOf w h)) 2147483648#32) i) 2147483648#32 = _
  have e : scan .max (fun _ : S16.Idx => IntOp.xori (BitVec.ofNat 32 (cntOf w h)) 2147483648#32) i
      = IntOp.xori (BitVec.ofNat 32 (cntOf w h)) 2147483648#32 := foldl_max_const _ _
  rw [e]
  unfold IntOp.xori
  rw [BitVec.xor_assoc, BitVec.xor_self, BitVec.xor_zero]
  rfl

/-- The image a row of the result belongs to, times the rows of one image's table. -/
theorem base_eq {n : ℕ} (hn : n < 256) :
    Scalar.muli (Scalar.select (Scalar.andi
        (Scalar.cmpi .ne
          (Scalar.subi (Scalar.extui (Scalar.cmpi .sgt (BitVec.ofNat 32 n) 0#32)) (Scalar.extui (Scalar.cmpi .slt (BitVec.ofNat 32 n) 0#32)))
          (Scalar.subi (Scalar.extui (Scalar.cmpi .sgt 64#32 0#32)) (Scalar.extui (Scalar.cmpi .slt 64#32 0#32))))
        (Scalar.cmpi .ne (Scalar.remsi (BitVec.ofNat 32 n) 64#32) 0#32))
      (Scalar.subi (Scalar.divsi (BitVec.ofNat 32 n) 64#32) 1#32) (Scalar.divsi (BitVec.ofNat 32 n) 64#32)) 50176#32
      = BitVec.ofNat 32 (n / 64 * 50176) := by
  show IntOp.muli (floorDivW .scalar (BitVec.ofNat 32 n) (BitVec.ofNat 32 64)) (BitVec.ofNat 32 50176) = _
  rw [floorDivW_nat _ (by omega) (by omega) (by omega), muli_nat]

theorem iv_nat (k : ℕ) : Scf.iv 0#32 1#32 k = BitVec.ofNat 32 k := by
  unfold Scf.iv
  rw [show (1#32 : BitVec 32) = BitVec.ofNat 32 1 from rfl]
  simp

/-- The sixteen list entries trip `t` of the list's loop computes. -/
theorem pay2_eq {g x y w h : ℕ} (hg : g < 4) (hx : x < 112) (hy : y < 112) (hw : w < 112) (hh : h < 112)
    (t : Fin (k1_t3_loop (BitVec.ofNat 32 (cntOf w h))).trips) (ht : t.val < 14) (i : S16.Idx) :
    k1_pay2 (F := F) (wv x) (wv y) (wv (w - 8)) (wv (h - 8)) (BitVec.ofNat 32 (g * 50176)) (wv (steps w)) (wv (cntOf w h))
      (BitVec.ofNat 32 (cntOf w h)) 0#32 1#32 t i
      = BitVec.ofNat 32 (entryOf g x y w h (16 * t.val + (i 0).val)) := by
  have hc := cntOf_pos w h
  have hc' := cntOf_le hw hh
  have hs := steps_pos w
  have hs' := steps_le hw
  have hi : (i 0).val < 16 := (i 0).isLt
  show IntOp.addi (IntOp.addi (BitVec.ofNat 32 (g * 50176))
      (IntOp.muli (IntOp.addi (BitVec.ofNat 32 y)
        (IntOp.minsi (IntOp.muli (floorDivW .vector
            (IntOp.minsi (IntOp.addi (BitVec.ofNat 32 ((0 * 16) + (i 0).val)) (IntOp.muli (Scf.iv 0#32 1#32 t) (BitVec.ofNat 32 16)))
              (IntOp.subi (BitVec.ofNat 32 (cntOf w h)) (BitVec.ofNat 32 1)))
            (BitVec.ofNat 32 (steps w))) (BitVec.ofNat 32 8)) (BitVec.ofNat 32 (h - 8)))) (BitVec.ofNat 32 224)))
      (IntOp.addi (BitVec.ofNat 32 x)
        (IntOp.minsi (IntOp.muli (IntOp.subi
            (IntOp.minsi (IntOp.addi (BitVec.ofNat 32 ((0 * 16) + (i 0).val)) (IntOp.muli (Scf.iv 0#32 1#32 t) (BitVec.ofNat 32 16)))
              (IntOp.subi (BitVec.ofNat 32 (cntOf w h)) (BitVec.ofNat 32 1)))
            (IntOp.muli (floorDivW .vector
              (IntOp.minsi (IntOp.addi (BitVec.ofNat 32 ((0 * 16) + (i 0).val)) (IntOp.muli (Scf.iv 0#32 1#32 t) (BitVec.ofNat 32 16)))
                (IntOp.subi (BitVec.ofNat 32 (cntOf w h)) (BitVec.ofNat 32 1)))
              (BitVec.ofNat 32 (steps w))) (BitVec.ofNat 32 (steps w)))) (BitVec.ofNat 32 8)) (BitVec.ofNat 32 (w - 8)))) = _
  have hm : min (0 * 16 + (i 0).val + t.val * 16) (cntOf w h - 1) ≤ 195 := (Nat.min_le_right _ _).trans (by omega)
  rw [iv_nat, muli_nat, addi_nat, subi_nat (by omega), minsi_nat (by omega) (by omega)]
  have he : min (0 * 16 + (i 0).val + t.val * 16) (cntOf w h - 1) = min (16 * t.val + (i 0).val) (cntOf w h - 1) := by
    congr 1; omega
  rw [he] at hm ⊢
  unfold entryOf idxOf
  generalize min (16 * t.val + (i 0).val) (cntOf w h - 1) = m at hm ⊢
  have hq : m / steps w * steps w ≤ m := Nat.div_mul_le_self m _
  have hq' : m / steps w ≤ m := Nat.div_le_self _ _
  rw [floorDivW_nat _ (by omega) hs (by omega), muli_nat, minsi_nat (by omega) (by omega), addi_nat, muli_nat, addi_nat,
    muli_nat, subi_nat hq, muli_nat, minsi_nat (by omega) (by omega), addi_nat, addi_nat]

/-! ## Trip counts -/

theorem trips3 : ∀ n : Fin 197, 0 < n.val → (k1_t3_loop (BitVec.ofNat 32 n.val)).OK
    ∧ (k1_t3_loop (BitVec.ofNat 32 n.val)).trips = (n.val + 15) / 16 := by decide +kernel

theorem trips4 : ∀ n : Fin 197, 0 < n.val → (k1_t4_loop (BitVec.ofNat 32 n.val)).OK
    ∧ (k1_t4_loop (BitVec.ofNat 32 n.val)).trips = 0 := by decide +kernel

theorem trips5 : ∀ n : Fin 197, 0 < n.val → (k1_t5_loop (BitVec.ofNat 32 n.val)).OK
    ∧ (k1_t5_loop (BitVec.ofNat 32 n.val)).trips = (n.val + 31) / 32 := by decide +kernel

theorem trips6 : ∀ n : Fin 197, 0 < n.val → (k1_t6_loop (BitVec.ofNat 32 n.val)).OK
    ∧ (k1_t6_loop (BitVec.ofNat 32 n.val)).trips = 0 := by decide +kernel

theorem trips7 : ∀ n : Fin 197, 0 < n.val → (k1_t7_loop (BitVec.ofNat 32 n.val)).OK
    ∧ (k1_t7_loop (BitVec.ofNat 32 n.val)).trips = n.val := by decide +kernel

theorem trips8 : ∀ n : Fin 197, 0 < n.val → (k1_t8_loop (BitVec.ofNat 32 n.val)).OK
    ∧ (k1_t8_loop (BitVec.ofNat 32 n.val)).trips = 0 := by decide +kernel

/-! ## Offsets -/

theorem off4_eq (v : BitVec 32) (t : Fin (k1_t3_loop v).trips) (ht : t.val < 14) : k1_off4 v t = ![16 * t.val] := by
  show ![(IntOp.muli (Scf.iv 0#32 1#32 t) (BitVec.ofNat 32 16)).toNat] = _
  rw [iv_nat, muli_nat, toNat_nat (by omega), Nat.mul_comm]

/-- The row an induction variable below 224 names. -/
theorem row_toNat (k : ℕ) (hk : k < 224) : (Scalar.indexCast (Scf.iv 0#32 1#32 k)).toNat = k := by
  show (Scf.iv 0#32 1#32 k).toNat = k
  rw [iv_nat, toNat_nat (by omega)]

/-- A row of sixteen lanes starting at lane `c` lies in the staging rows. -/
theorem row_inb (o : Fin 2 → ℕ) (k c : ℕ) (hk : k < 224) (hc : c + 16 ≤ 128) (ho : o = ![k, c]) :
    ∀ a, o a + S1x16.size a ≤ S224x128.size a := by
  subst ho
  intro a
  match a with
  | 0 => show k + 1 ≤ 224; omega
  | 1 => show c + 16 ≤ 128; omega

/-- The check the program makes on its sample count holds of a count between one and 196. -/
theorem chk1 (n : ℕ) (h0 : 0 < n) (hn : n ≤ 196) : k1_chk1 (BitVec.ofNat 32 n) := by
  obtain ⟨o3, t3⟩ := trips3 ⟨n, by omega⟩ h0
  obtain ⟨o4, t4⟩ := trips4 ⟨n, by omega⟩ h0
  obtain ⟨o5, -⟩ := trips5 ⟨n, by omega⟩ h0
  obtain ⟨o6, -⟩ := trips6 ⟨n, by omega⟩ h0
  obtain ⟨o7, t7⟩ := trips7 ⟨n, by omega⟩ h0
  obtain ⟨o8, t8⟩ := trips8 ⟨n, by omega⟩ h0
  dsimp only at *
  have h7 : ∀ t : Fin (k1_t7_loop (BitVec.ofNat 32 n)).trips, t.val < 224 := fun t => by have := t.isLt; omega
  have e8 : ∀ t : Fin (k1_t8_loop (BitVec.ofNat 32 n)).trips, False := fun t => by have := t.isLt; omega
  refine ⟨o3, ?_, o4, fun t => absurd t.isLt (by omega), o5, o6, o7, ?_, ?_, ?_, ?_, ?_, ?_, o8,
    fun t => (e8 t).elim, fun t => (e8 t).elim, fun t => (e8 t).elim, fun t => (e8 t).elim, fun t => (e8 t).elim,
    fun t => (e8 t).elim⟩
  · intro t a
    have ht : t.val < 14 := by have := t.isLt; omega
    rw [off4_eq _ t ht]
    match a with
    | 0 => show 16 * t.val + 16 ≤ 224; omega
  all_goals intro t
  · exact row_inb _ t.val 0 (h7 t) (by omega) (congrArg (fun k => ![k, 0]) (row_toNat _ (h7 t)))
  · exact row_inb _ t.val 16 (h7 t) (by omega) (congrArg (fun k => ![k, 16]) (row_toNat _ (h7 t)))
  · exact row_inb _ t.val 32 (h7 t) (by omega) (congrArg (fun k => ![k, 32]) (row_toNat _ (h7 t)))
  · exact row_inb _ t.val 48 (h7 t) (by omega) (congrArg (fun k => ![k, 48]) (row_toNat _ (h7 t)))
  · exact row_inb _ t.val 64 (h7 t) (by omega) (congrArg (fun k => ![k, 64]) (row_toNat _ (h7 t)))
  · exact row_inb _ t.val 80 (h7 t) (by omega) (congrArg (fun k => ![k, 80]) (row_toNat _ (h7 t)))

/-- The guard of the gather at rows `o`: it is issued exactly where the count exceeds `o`. -/
theorem guard_iff {n o : ℕ} (hn : n ≤ 196) (ho : o < 224) :
    Scalar.cmpi .ne (Scalar.extui (Scalar.cmpi .sgt (BitVec.ofNat 32 n) (BitVec.ofNat 32 o))) 0#32 = 1#1 ↔ o < n := by
  have h : (BitVec.ofNat 32 o).slt (BitVec.ofNat 32 n) = decide (o < n) := slt_nat (by omega) (by omega)
  show IntOp.cmpi .ne ((BitVec.ofBool ((BitVec.ofNat 32 o).slt (BitVec.ofNat 32 n))).setWidth 32) 0#32 = 1#1 ↔ _
  rw [h]
  by_cases hlt : o < n
  · simp only [hlt, decide_true, iff_true]; decide
  · simp only [hlt, decide_false, iff_false]; decide

end Cert.KernelIdeal.Arith
-- ==== Proof.IdealBase.lean ====
/-
  The tile program's setting: the launch's labels and ghost state, the buffers and semaphores of one vector subcore,
  and what its scratch holds.
-/
module

public import proofs.«01_k».proof.Defs
public import proofs.«01_k».proof.Proof.IdealArith
public import proofs.«01_k».proof.Proof.GatherBatch
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal.Launch
public import proofs.«01_k».proof.Proof.Gen.KernelIdeal.Points
public import proofs.«01_k».proof.Proof.Gen.Pre_in_range

@[expose] public section

noncomputable section

namespace Cert.KernelIdeal.Pool

open Cert.KernelIdeal Cert.KernelIdeal.Gen Cert.KernelIdeal.Arith Cert.PoolWords

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-! ## The resource algebra: the handshakes' rounds, the pipeline's rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL

/-! ## The buffers of a vector subcore -/

abbrev xV : Memref sig .scVector .hbm S200704x128 .f32 := Memref.whole main_v5_scv
abbrev rV : Memref sig .scVector .hbm S16384 .i32 := Memref.whole main_v3_scv
abbrev oV : Memref sig .scVector .hbm S256x96 .f32 := Memref.whole main_v6_scv
abbrev cV : Memref sig .scVector .vmem S512 .i32 := Memref.whole cc1_scratch0
abbrev lV : Memref sig .scVector .vmem S224 .i32 := Memref.whole cc1_scratch1
abbrev wV : Memref sig .scVector .vmem S224x128 .f32 := Memref.whole cc1_scratch2
abbrev sV : Memref sig .scVector .vmem S8x96 .f32 := Memref.whole cc1_scratch3

abbrev coreOf (L : grid1.Coords) : Fin τ.nSC := (L 0).castLE hcore1
abbrev subOf (L : grid1.Coords) : Fin τ.nSub := (L 1).castLE hsub1
/-- The vector subcore a grid point runs on. -/
abbrev thr (d : Dev nD) (L : grid1.Coords) : Thread nD τ := V d (coreOf L) (subOf L)

variable [FloatOps F]

/-- The weakest precondition of a vector subcore's program. -/
abbrev wpT (d : Dev nD) (L : grid1.Coords) {α : Type} (p : Prog (TpuEff nD τ sig (Elt F) Λ₀ (thr d L).2) α)
    (Q : α → sProp 𝕄) : sProp 𝕄 :=
  wp frame (wpE (defs₀ (F := F)) 𝒱₀ (thr d L) none) Set.univ p Q

/-! ## What the tile computes -/

/-- The index of the table at row `i`, lane `j`. -/
def tix (i : Fin 200704) (j : Fin 128) : S200704x128.Idx := fun | 0 => i | 1 => j
/-- The index of lane `i` of sixteen. -/
def lix (i : Fin 16) : S16.Idx := fun | 0 => i
/-- The index of lane `j` of one row of sixteen. -/
def vix (j : Fin 16) : S1x16.Idx := fun | 0 => (0 : Fin 1) | 1 => j

/-- Entry `c` of row `n` of the table of window maxima. -/
def tAt (T : S200704x128.Idx → F .f32) (n c : ℕ) : F .f32 :=
  if h : n < 200704 ∧ c < 128 then T (tix ⟨n, h.1⟩ ⟨c, h.2⟩) else Scalar.ofBits .f32 0xFF800000#32

/-- The maximum of the first `k` values of a sequence, from minus infinity up. -/
def runMax (a : ℕ → F .f32) : ℕ → F .f32
  | 0 => Scalar.ofBits .f32 0xFF800000#32
  | k + 1 => FloatOps.maximumf (runMax a k) (a k)

/-- The rows of the table the samples of region `n` read, the regions' numbers being `R`. -/
def rowOf (R : ℕ → ℕ) (n k : ℕ) : ℕ := idxOf (n / 64) (R (4 * n)) (R (4 * n + 1)) (R (4 * n + 2)) (R (4 * n + 3)) k
/-- How many samples region `n` has. -/
def numOf (R : ℕ → ℕ) (n : ℕ) : ℕ := cntOf (R (4 * n + 2)) (R (4 * n + 3))

/-- Channel `c` of the pooled row of region `n`. -/
def outAt (T : S200704x128.Idx → F .f32) (R : ℕ → ℕ) (n c : ℕ) : F .f32 :=
  runMax (fun k => tAt T (rowOf R n k) c) (numOf R n)

/-- The regions' numbers are in range: corners in `[0, 112)`, extents in `[8, 112)`. -/
def InRange (R : ℕ → ℕ) : Prop :=
  ∀ n < 256, R (4 * n) < 112 ∧ R (4 * n + 1) < 112 ∧ (8 ≤ R (4 * n + 2) ∧ R (4 * n + 2) < 112) ∧ (8 ≤ R (4 * n + 3) ∧ R (4 * n + 3) < 112)

theorem rowOf_lt {R : ℕ → ℕ} (hR : InRange R) {n : ℕ} (hn : n < 256) (k : ℕ) : rowOf R n k < 200704 := by
  obtain ⟨h1, h2, ⟨-, h3⟩, -, h4⟩ := hR n hn
  exact idxOf_lt (by omega) h1 h2 h3 h4 k

theorem numOf_pos (R : ℕ → ℕ) (n : ℕ) : 0 < numOf R n := cntOf_pos _ _

theorem numOf_le {R : ℕ → ℕ} (hR : InRange R) {n : ℕ} (hn : n < 256) : numOf R n ≤ 196 := by
  obtain ⟨-, -, ⟨-, h3⟩, -, h4⟩ := hR n hn
  exact cntOf_le h3 h4

/-- What sixteen adjacent stores through one list leave at an entry. -/
theorem list_write (f : S224.Idx → BitVec 32) (off : Fin 1 → ℕ) (o : ℕ) (ho : off = ![o]) (inb : ∀ a, off a + S16.size a ≤ S224.size a)
    (u : S16.Idx → BitVec 32) (p : S224.Idx) :
    (lV).view.writes (Elt F) f [⟨Rect.unit (s := S224) off S16.size inb, u⟩] p
      = if h : o ≤ (p 0).val ∧ (p 0).val < o + 16 then u (lix ⟨(p 0).val - o, by omega⟩) else f p := by
  subst ho
  have hr : ∀ g : S224.Idx → BitVec 32, (lV).view.read (Elt F) g p = g p := fun g => by
    simp only [Memref.view_whole, View.read_whole]
  rw [← hr ((lV).view.writes (Elt F) f _)]
  split
  · next h =>
    refine View.read_writes_cons_hit_of_coords _ _ _ _ _ _ _ ?_
    intro a
    match a with
    | 0 => show (p 0).val = o + 1 * ((p 0).val - o); omega
  · next h =>
    rw [View.read_writes_cons_miss_of_axis _ _ _ _ _ 0 o 16 rfl rfl rfl (by omega)]
    exact hr f

/-- What one store of sixteen lanes of the result rows leaves at an entry. -/
theorem res_write (f : S8x96.Idx → F .f32) (Ls : List (View.Piece (Elt F) S8x96 .f32)) (off : Fin 2 → ℕ) (r o : ℕ) (ho : off = ![r, o])
    (inb : ∀ a, off a + S1x16.size a ≤ S8x96.size a) (u : S1x16.Idx → F .f32) (p : S8x96.Idx) :
    (sV).view.writes (Elt F) f (⟨Rect.unit (s := S8x96) off S1x16.size inb, u⟩ :: Ls) p
      = if h : (p 0).val = r ∧ o ≤ (p 1).val ∧ (p 1).val < o + 16 then u (vix ⟨(p 1).val - o, by omega⟩)
        else (sV).view.writes (Elt F) f Ls p := by
  subst ho
  have hr : ∀ g : S8x96.Idx → F .f32, (sV).view.read (Elt F) g p = g p := fun g => by
    simp only [Memref.view_whole, View.read_whole]
  rw [← hr ((sV).view.writes (Elt F) f _), ← hr ((sV).view.writes (Elt F) f Ls)]
  split
  · next h =>
    refine View.read_writes_cons_hit_of_coords _ _ _ _ _ _ _ ?_
    intro a
    match a with
    | 0 => show (p 0).val = r + 1 * 0; omega
    | 1 => show (p 1).val = o + 1 * ((p 1).val - o); omega
  · next h =>
    by_cases h0 : (p 0).val = r
    · exact View.read_writes_cons_miss_of_axis _ _ _ _ _ 1 o 16 rfl rfl rfl (by omega)
    · exact View.read_writes_cons_miss_of_axis _ _ _ _ _ 0 r 1 rfl rfl rfl (by omega)

/-- Sixteen lanes of one row of the gathered rows, as a vector. -/
theorem win_load (f : S224x128.Idx → F .f32) (off : Fin 2 → ℕ) (r o : ℕ) (ho : off = ![r, o])
    (inb : ∀ a, off a + S1x16.size a ≤ S224x128.size a) (i : S16.Idx) :
    ∃ p : S224x128.Idx, (p 0).val = r ∧ (p 1).val = o + (i 0).val
      ∧ shapeCast S16 ((wV).view.readAt (Elt F) (Rect.unit (s := S224x128) off S1x16.size inb).toLoadRect f) shapeCasts_S1x16_S16 i = f p := by
  subst ho
  have hi : (i 0).val < 16 := (i 0).isLt
  have he : Shape.reshapeEquiv shapeCasts_S1x16_S16 i = vix ⟨(i 0).val, hi⟩ := by
    apply Shape.reshapeEquiv_eq_of_rowMajor
    rw [Shape.rowMajor_val_two, Shape.rowMajor_val_one]
    show 0 * 16 + (i 0).val = (i 0).val
    omega
  refine ⟨(Rect.unit (s := S224x128) ![r, o] S1x16.size inb).emb (vix ⟨(i 0).val, hi⟩), ?_, ?_, ?_⟩
  · show r + 1 * 0 = r; omega
  · show o + 1 * (i 0).val = _; omega
  · show (wV).view.readAt (Elt F) (Rect.unit (s := S224x128) ![r, o] S1x16.size inb).toLoadRect f (Shape.reshapeEquiv shapeCasts_S1x16_S16 i) = _
    rw [he, View.readAt_rect]
    exact (View.read_apply _ _).trans (cast_eq _ _)

end Cert.KernelIdeal.Pool
-- ==== Proof.IdealLoops.lean ====
module

public import proofs.«01_k».proof.Proof.IdealBase

@[expose] public section

noncomputable section

namespace Cert.KernelIdeal.Pool

open Cert.KernelIdeal Cert.KernelIdeal.Gen Cert.KernelIdeal.Arith Cert.PoolWords

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] (d : Dev nD) (L : grid1.Coords)

/-- Before trip `k` of the clearing loop the first `16 k` entries of the list are zero. -/
abbrev ZInv (k : ℕ) (_ : BitVec 32) : sProp 𝕄 :=
  iprop(∃ f, ((lV).view.loc (thr d L) ↦{fullShare} f) ∗ ⌜∀ p : S224.Idx, (p 0).val < 16 * k → f p = 0#32⌝)

theorem t1_trip (k : Fin k1_t1_loop.trips) (acc : BitVec 32) :
    ZInv (F := F) d L k.val acc ⊢ wpT d L
      (k1_t1_body L xV (Memref.isWhole_whole _) rV (Memref.isWhole_whole _) oV (Memref.isWhole_whole _) cV (Memref.isWhole_whole _)
        lV (Memref.isWhole_whole _) wV (Memref.isWhole_whole _) sV (Memref.isWhole_whole _) cc1_scratch4 cc1_scoped0 cc1_scoped1 k acc)
      (ZInv (F := F) d L (k.val + 1)) := by
  unfold k1_t1_body wpT
  iintro ⟨%f, Hl, %hf⟩
  sl_exec
  sl_step
  iexists _
  isplitl [Hl]; · iexact Hl
  ipureintro
  intro p hp
  rw [list_write (F := F) f _ _ (k1_off2_eq k)]
  split
  · rfl
  · exact hf p (by omega)

section Roi

variable (g x y w h : ℕ) (hw1 : k1_chk1 (BitVec.ofNat 32 (cntOf w h)))

/-- Before trip `k` of the list's loop the first `16 k` entries are the samples' rows; every entry names a row. -/
abbrev LInv (k : ℕ) (_ : BitVec 32) : sProp 𝕄 :=
  iprop(∃ f, ((lV).view.loc (thr d L) ↦{fullShare} f) ∗ ⌜(∀ p : S224.Idx, (f p : BitVec 32).toNat < 200704)
    ∧ ∀ p : S224.Idx, (p 0).val < 16 * k → f p = BitVec.ofNat 32 (entryOf g x y w h (p 0).val)⌝)

theorem t3_trip (hg : g < 4) (hx : x < 112) (hy : y < 112) (hw : w < 112) (hh : h < 112) (v136 : BitVec 32)
    (k : Fin (k1_t3_loop (BitVec.ofNat 32 (cntOf w h))).trips) (acc : BitVec 32) :
    LInv (F := F) d L g x y w h k.val acc ⊢ wpT d L
      (k1_t3_body L xV (Memref.isWhole_whole _) rV (Memref.isWhole_whole _) oV (Memref.isWhole_whole _) cV (Memref.isWhole_whole _)
        lV (Memref.isWhole_whole _) wV (Memref.isWhole_whole _) sV (Memref.isWhole_whole _) cc1_scratch4 cc1_scoped0 cc1_scoped1
        (wv x) (wv y) (wv (w - 8)) (wv (h - 8)) (BitVec.ofNat 32 (g * 50176)) (wv (steps w)) (wv (cntOf w h)) (BitVec.ofNat 32 (cntOf w h))
        hw1 v136 k acc)
      (LInv (F := F) d L g x y w h (k.val + 1)) := by
  have hk : k.val < 14 := by
    have h1 := k.isLt
    have h2 := (trips3 ⟨cntOf w h, by have := cntOf_le hw hh; omega⟩ (cntOf_pos w h)).2
    have h3 := cntOf_le hw hh
    dsimp only at h2
    omega
  unfold k1_t3_body wpT
  simp only [k1_part1_eq_skeleton]; unfold k1_part1_skel
  iintro ⟨%f, Hl, %hf⟩
  sl_exec
  sl_step
  iexists _
  isplitl [Hl]; · iexact Hl
  ipureintro
  refine ⟨?_, ?_⟩
  · intro p
    rw [list_write (F := F) f _ _ (off4_eq _ k hk)]
    split
    · rw [pay2_eq hg hx hy hw hh k hk, toNat_nat (lt_trans (entryOf_lt hg hx hy hw hh _) (by omega))]
      exact entryOf_lt hg hx hy hw hh _
    · exact hf.1 p
  · intro p hp
    rw [list_write (F := F) f _ _ (off4_eq _ k hk)]
    split
    · next hin =>
      rw [pay2_eq hg hx hy hw hh k hk]
      congr 2
      show 16 * k.val + ((p 0).val - 16 * k.val) = _
      omega
    · exact hf.2 p (by omega)

/-- Six vectors of running maxima over the first `k` samples, sixteen channels each. -/
def accs (T : S200704x128.Idx → F .f32) (k : ℕ) (ch : ℕ) : FVec F S16 .f32 :=
  fun i => runMax (fun r => tAt T (idxOf g x y w h r) (16 * ch + (i 0).val)) k

/-- One more sample in one of the six vectors. -/
theorem accs_step {T : S200704x128.Idx → F .f32} {k ch : ℕ} {f : S224x128.Idx → F .f32} (hk : k < cntOf w h)
    (hf : ∀ p : S224x128.Idx, (p 0).val < cntOf w h → f p = tAt T (idxOf g x y w h (p 0).val) (p 1).val)
    {off : Fin 2 → ℕ} (ho : off = ![k, 16 * ch]) (inb : ∀ a, off a + S1x16.size a ≤ S224x128.size a) :
    maximumf (accs g x y w h T k ch)
        (shapeCast S16 ((wV).view.readAt (Elt F) (Rect.unit (s := S224x128) off S1x16.size inb).toLoadRect f) shapeCasts_S1x16_S16)
      = accs g x y w h T (k + 1) ch := by
  funext i
  obtain ⟨p, h0, h1, hp⟩ := win_load f off k (16 * ch) ho inb i
  show FloatOps.maximumf (accs g x y w h T k ch i) _ = FloatOps.maximumf (accs g x y w h T k ch i) _
  rw [hp, hf p (by omega), h0, h1]

/-- Before trip `k` of the pooling loop the six vectors hold the maxima of the first `k` samples. -/
abbrev MInv (T : S200704x128.Idx → F .f32) (k : ℕ)
    (a : FVec F S16 .f32 × FVec F S16 .f32 × FVec F S16 .f32 × FVec F S16 .f32 × FVec F S16 .f32 × FVec F S16 .f32) : sProp 𝕄 :=
  iprop(∃ f, ((wV).view.loc (thr d L) ↦{fullShare} f)
    ∗ ⌜(∀ p : S224x128.Idx, (p 0).val < cntOf w h → f p = tAt T (idxOf g x y w h (p 0).val) (p 1).val)
      ∧ a = (accs g x y w h T k 0, accs g x y w h T k 1, accs g x y w h T k 2, accs g x y w h T k 3, accs g x y w h T k 4,
        accs g x y w h T k 5)⌝)

theorem t7_trip (hw : w < 112) (hh : h < 112) (T : S200704x128.Idx → F .f32)
    (t2 : Fin k1_t2_loop.trips) (v10 v166 c32 v167 : BitVec 32)
    (k : Fin (k1_t7_loop (BitVec.ofNat 32 (cntOf w h))).trips)
    (a : FVec F S16 .f32 × FVec F S16 .f32 × FVec F S16 .f32 × FVec F S16 .f32 × FVec F S16 .f32 × FVec F S16 .f32) :
    MInv (F := F) d L g x y w h T k.val a ⊢ wpT d L
      (k1_t7_body L xV (Memref.isWhole_whole _) rV (Memref.isWhole_whole _) oV (Memref.isWhole_whole _) cV (Memref.isWhole_whole _)
        lV (Memref.isWhole_whole _) wV (Memref.isWhole_whole _) sV (Memref.isWhole_whole _) cc1_scratch4 cc1_scoped0 cc1_scoped1
        t2 v10 (BitVec.ofNat 32 (cntOf w h)) hw1 v166 c32 v167 k a)
      (MInv (F := F) d L g x y w h T (k.val + 1)) := by
  have hk : k.val < cntOf w h := by
    have h1 := k.isLt
    have h2 := (trips7 ⟨cntOf w h, by have := cntOf_le hw hh; omega⟩ (cntOf_pos w h)).2
    dsimp only at h2
    omega
  have hk' := cntOf_le hw hh
  unfold k1_t7_body wpT
  iintro ⟨%f, Hl, %hf⟩
  sl_exec
  sl_step
  iexists _
  isplitl [Hl]; · iexact Hl
  ipureintro
  obtain ⟨hf, rfl⟩ := hf
  have h224 : k.val < 224 := by omega
  refine ⟨hf, Prod.ext ?_ (Prod.ext ?_ (Prod.ext ?_ (Prod.ext ?_ (Prod.ext ?_ ?_))))⟩
  · exact accs_step g x y w h hk hf (ch := 0) (congrArg (fun k => ![k, 0]) (row_toNat _ h224)) _
  · exact accs_step g x y w h hk hf (ch := 1) (congrArg (fun k => ![k, 16]) (row_toNat _ h224)) _
  · exact accs_step g x y w h hk hf (ch := 2) (congrArg (fun k => ![k, 32]) (row_toNat _ h224)) _
  · exact accs_step g x y w h hk hf (ch := 3) (congrArg (fun k => ![k, 48]) (row_toNat _ h224)) _
  · exact accs_step g x y w h hk hf (ch := 4) (congrArg (fun k => ![k, 64]) (row_toNat _ h224)) _
  · exact accs_step g x y w h hk hf (ch := 5) (congrArg (fun k => ![k, 80]) (row_toNat _ h224)) _

end Roi

end Cert.KernelIdeal.Pool
-- ==== Proof.IdealGather.lean ====
module

public import proofs.«01_k».proof.Proof.IdealLoops

@[expose] public section

noncomputable section

namespace Cert.KernelIdeal.Pool

open Cert.KernelIdeal Cert.KernelIdeal.Gen Cert.KernelIdeal.Arith Cert.PoolWords

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] (d : Dev nD) (L : grid1.Coords)

/-! ## The gathered rows

The thirty-two copies of one chunk and the copies of the chunks after it land on one semaphore, so the rows of the
scratch, the entries of the list and the pieces of the table's share are told apart one row at a time. -/

/-- Rows `32 g …` of the gathered rows. -/
abbrev wS (o : ℕ) (h : ∀ a, ![o, 0] a + S32x128.size a ≤ S224x128.size a) : Memref sig .scVector .vmem S32x128 .f32 :=
  (wV).slice (Rect.unit (s := S224x128) ![o, 0] S32x128.size h) (fun _ => rfl)
/-- Entries `32 g …` of the list. -/
abbrev lS (o : ℕ) (h : ∀ a, ![o] a + S32.size a ≤ S224.size a) : Memref sig .scVector .vmem S32 .i32 :=
  (lV).slice (Rect.unit (s := S224) ![o] S32.size h) (fun _ => rfl)
/-- The table, whole. -/
abbrev xS : Memref sig .scVector .hbm S200704x128 .f32 :=
  (xV).slice (Rect.unit (s := S200704x128) ![0, 0] S200704x128.size inb_S200704x128_S200704x128_0_0) (fun _ => rfl)

/-- Entry `t` of the list. -/
def eix (t : Fin 224) : S224.Idx := fun | 0 => t
/-- Row `t`, lane `c` of the gathered rows. -/
def wix (t : Fin 224) (c : Fin 128) : S224x128.Idx := fun | 0 => t | 1 => c

/-- Row `t` of the gathered rows. -/
def rowW (t : ℕ) : Finset S224x128.Idx := Finset.univ.filter fun p => (p 0).val = t

theorem mem_rowW {t : ℕ} {p : S224x128.Idx} : p ∈ rowW t ↔ (p 0).val = t := by simp [rowW]

theorem eix_eta (p : S224.Idx) : eix (p 0) = p := by
  funext a
  match a with
  | 0 => rfl

/-- What the gather of the first `m` rows leaves. -/
def fetched (T : S200704x128.Idx → F .f32) (fI : S224.Idx → BitVec 32) (m : ℕ) (fW : S224x128.Idx → F .f32) (p : S224x128.Idx) : F .f32 :=
  if (p 0).val < m then tAt T (fI (eix (p 0))).toNat (p 1).val else fW p

theorem fetched_wix (T : S200704x128.Idx → F .f32) (fI : S224.Idx → BitVec 32) {m : ℕ} (fW : S224x128.Idx → F .f32)
    {t : ℕ} (ht : t < m) (hm : m ≤ 224) (hl : (fI (eix ⟨t, by omega⟩)).toNat < 200704) (c : Fin 128) :
    fetched T fI m fW (wix ⟨t, by omega⟩ c) = T (tix ⟨(fI (eix ⟨t, by omega⟩)).toNat, hl⟩ c) := by
  refine (if_pos (show t < m from ht)).trans ?_
  exact dif_pos (⟨hl, c.isLt⟩ : (fI (eix ⟨t, by omega⟩)).toNat < 200704 ∧ c.val < 128)

variable (xq : PosShare TreeShare) (T : S200704x128.Idx → F .f32) (fI : S224.Idx → BitVec 32)

/-- What row `t`'s copy takes and gives back. -/
def rowHeld (fW : S224x128.Idx → F .f32) (t : Fin 224) : sProp 𝕄 :=
  iprop(((wV).view.loc (thr d L) ↦[rowW t.val]{fullShare} fW) ∗ ((lV).view.loc (thr d L) ↦[{eix t}]{fullShare} fI)
    ∗ ((xV).view.loc (thr d L) ↦[(xS).view.set]{pieceOf xq 224 (by omega) t} T))

instance (fW : S224x128.Idx → F .f32) (t : Fin 224) : Storable (upEmb : UEmb _ 𝕄) (rowHeld d L xq T fI fW t) := by
  unfold rowHeld; infer_instance

theorem xS_set : (xS).view.set = (Finset.univ : Finset S200704x128.Idx) := by
  ext p
  simp only [Finset.mem_univ, iff_true]
  refine Finset.mem_map.mpr ⟨p, Finset.mem_univ _, ?_⟩
  funext a
  apply Fin.ext
  match a with
  | 0 => show 0 + 1 * (p 0).val = _; omega
  | 1 => show 0 + 1 * (p 1).val = _; omega

/-- The three buffers are their rows. -/
theorem rows_eq (fW : S224x128.Idx → F .f32) :
    (iprop(((wV).view.loc (thr d L) ↦{fullShare} fW) ∗ ((lV).view.loc (thr d L) ↦{fullShare} fI) ∗ ((xV).view.loc (thr d L) ↦{xq} T)) : sProp 𝕄)
      = bigSep Finset.univ (rowHeld d L xq T fI fW) := by
  have h1 : (((wV).view.loc (thr d L) ↦{fullShare} fW) : sProp 𝕄)
      = bigSep Finset.univ fun t : Fin 224 => ((wV).view.loc (thr d L) ↦[rowW t.val]{fullShare} fW) := by
    rw [show (Finset.univ : Finset (Idx ((wV).view.loc (thr d L)))) = Finset.univ.biUnion fun t : Fin 224 => rowW t.val from by
      ext p
      simp only [Finset.mem_univ, true_iff, Finset.mem_biUnion, true_and]
      exact ⟨(p 0 : Fin 224), mem_rowW.mpr rfl⟩]
    refine pointsTo_biUnion _ _ fun t _ t' _ h => Finset.disjoint_left.mpr fun p hp hp' => h (Fin.ext ?_)
    exact (mem_rowW.mp hp).symm.trans (mem_rowW.mp hp')
  have h2 : (((lV).view.loc (thr d L) ↦{fullShare} fI) : sProp 𝕄)
      = bigSep Finset.univ fun t : Fin 224 => ((lV).view.loc (thr d L) ↦[{eix t}]{fullShare} fI) := by
    rw [show (Finset.univ : Finset (Idx ((lV).view.loc (thr d L)))) = Finset.univ.biUnion fun t : Fin 224 => {eix t} from by
      ext p
      simp only [Finset.mem_univ, true_iff, Finset.mem_biUnion, true_and, Finset.mem_singleton]
      exact ⟨(p 0 : Fin 224), (eix_eta p).symm⟩]
    refine pointsTo_biUnion _ _ fun t _ t' _ h => Finset.disjoint_singleton.mpr fun he => h ?_
    exact congrFun he 0
  have h3 : (((xV).view.loc (thr d L) ↦{xq} T) : sProp 𝕄)
      = bigSep Finset.univ fun t : Fin 224 => ((xV).view.loc (thr d L) ↦[(xS).view.set]{pieceOf xq 224 (by omega) t} T) := by
    have h := pointsTo_piecesOf (Ix := HIx 1) (Name := ℕ) (U := UU) (Lvl := ℕ) (Val := Elt F) (ℓ := (xV).view.loc (thr d L))
      Finset.univ T (o := 224) (by omega) xq
    rw [h]
    exact congrArg _ (funext fun t => congrArg (fun s => ((xV).view.loc (thr d L) ↦[s]{pieceOf xq 224 (by omega) t} T : sProp 𝕄)) xS_set.symm)
  rw [h1, h2, h3, ← BI.bigSep_sep', ← BI.bigSep_sep']
  rfl

/-- The rows below `m` and the rest. -/
theorem rows_split {m : ℕ} (hm : m ≤ 224) (Φ : Fin 224 → sProp 𝕄) :
    bigSep Finset.univ Φ = iprop(bigSep Finset.univ (fun t : Fin m => Φ (t.castLE hm)) ∗ bigSep (Finset.univ.filter fun t : Fin 224 => ¬ t.val < m) Φ) := by
  rw [SparseCore.bigSep_filter_split' Finset.univ (fun t : Fin 224 => t.val < m)]
  congr 1
  rw [show (Finset.univ.filter fun t : Fin 224 => t.val < m) = Finset.univ.map (Fin.castLEEmb hm) from by
    ext t
    simp only [Finset.mem_filter, Finset.mem_univ, true_and, Finset.mem_map, Fin.castLEEmb_apply]
    constructor
    · intro h; exact ⟨⟨t.val, h⟩, rfl⟩
    · rintro ⟨j, rfl⟩; exact j.isLt]
  rw [SparseCore.bigSep_map]
  rfl

/-- Row `j` of chunk `o` of the gathered rows is row `o + j`. -/
theorem wS_row (o : ℕ) (h) (j : Fin (S32x128.size gathers_S200704x128_S32x128.axis')) :
    ((wS o h).view.slice (S32x128.rowRect gathers_S200704x128_S32x128.axis' j)).set = rowW (o + j.val) := by
  ext p
  rw [mem_rowW]
  constructor
  · intro hp
    obtain ⟨i, -, rfl⟩ := Finset.mem_map.mp hp
    have h0 : (i 0).val < 1 := (i 0).isLt
    show o + 1 * (j.val + 1 * (i 0).val) = _
    omega
  · intro hp
    refine Finset.mem_map.mpr ⟨fun | 0 => (0 : Fin 1) | 1 => (p 1 : Fin 128), Finset.mem_univ _, ?_⟩
    funext a
    apply Fin.ext
    match a with
    | 0 => show o + 1 * (j.val + 1 * 0) = _; omega
    | 1 => show 0 + 1 * (0 + 1 * (p 1).val) = _; omega

/-- One row's credit. -/
abbrev rowN : ℕ :=
  ((wS 0 inb_S224x128_S32x128_0_0).slice (S32x128.rowRect 0 (0 : Fin 32)) (S32x128.stride_rowRect 0 (0 : Fin 32))).view.dmaCredit

/-- Entry `j` of chunk `o` of the list is entry `o + j`. -/
theorem lS_entry (o : ℕ) (h) (hn : S32.numel = S32x128.size gathers_S200704x128_S32x128.axis')
    (j : Fin (S32x128.size gathers_S200704x128_S32x128.axis')) (hj : o + j.val < 224) :
    (lS o h).view.emb (S32.rowMajor.symm (j.cast hn.symm)) = eix ⟨o + j.val, hj⟩ := by
  funext a
  apply Fin.ext
  match a with
  | 0 =>
    have hr := congrArg Fin.val (S32.rowMajor.apply_symm_apply (j.cast hn.symm))
    rw [Shape.rowMajor_val_one] at hr
    show o + 1 * ((S32.rowMajor.symm (j.cast hn.symm)) 0).val = o + j.val
    rw [hr, Nat.one_mul]; rfl

/-- The issue of one chunk. -/
theorem issue {m : ℕ} (hm : m ≤ 224) (fW : S224x128.Idx → F .f32) (hin : ∀ p : S224.Idx, (fI p).toNat < 200704)
    (o : ℕ) (hoW) (hoL) (ho : o + 32 ≤ m) {α : Type} {k : PUnit.{1} → Prog (TpuEff nD τ sig (Elt F) Λ₀ (thr d L).2) α} {Q : α → sProp 𝕄} :
    iprop(Transfers.Batch countersEmb (thr d L) (.dma cc1_scratch4.sem) (default : HIx 1) rowN
          (fun t : Fin m => rowHeld d L xq T fI (fetched T fI m fW) (t.castLE hm)) o 0
        ∗ bigSep (Transfers.pending o) (fun t : Fin m => rowHeld d L xq T fI fW (t.castLE hm)))
      ⊢ iprop((iprop(Transfers.Batch countersEmb (thr d L) (.dma cc1_scratch4.sem) (default : HIx 1) rowN
              (fun t : Fin m => rowHeld d L xq T fI (fetched T fI m fW) (t.castLE hm)) (o + 32) 0
            ∗ bigSep (Transfers.pending (o + 32)) (fun t : Fin m => rowHeld d L xq T fI fW (t.castLE hm))) -∗ wpT d L (k ⟨⟩) Q)
        -∗ wpT d L (SparseCore.enqueueIndirectGather rfl xS (wS o hoW) gathers_S200704x128_S32x128 (lS o hoL) rfl cc1_scratch4.sem
            (View.wordExact_bits rfl) rfl (Or.inl rfl) >>= k) Q) := by
  have hre : ∀ x, (lS o hoL).view.read (Elt F) fI x = fI ((lS o hoL).view.emb x) := fun x => (View.read_apply _ _).trans (cast_eq _ _)
  have hin' : ∀ x, ((lS o hoL).view.read (Elt F) fI x).toNat < S200704x128.size gathers_S200704x128_S32x128.axis := fun x => by
    rw [hre]; exact hin _
  refine GatherBatch.wp_gatherInBatch countersEmb 𝒱₀ (thr d L) none (hg := gathers_S200704x128_S32x128) (fd := fW) (fo := fI) (fs := T)
    (qo := fullShare) hin' (default : HIx 1) rowN (fun j => rfl) ho (Nat.zero_le _)
    (fun j => pieceOf xq 224 (by omega) ⟨o + j.val, by have : j.val < 32 := j.isLt; omega⟩) ?_ ?_
  · intro j
    have hj : j.val < 32 := j.isLt
    have h1 := wS_row o hoW j
    have h2 := lS_entry o hoL rfl j (by omega)
    have e1 : (((wV).view.loc (thr d L) ↦[rowW (((⟨o + j.val, by omega⟩ : Fin m).castLE hm).val)]{fullShare} fW) : sProp 𝕄)
        = ((wS o hoW).view.loc (thr d L) ↦[((wS o hoW).view.slice (S32x128.rowRect gathers_S200704x128_S32x128.axis' j)).set]{fullShare} fW) :=
      congrArg (fun s => ((wV).view.loc (thr d L) ↦[s]{fullShare} fW : sProp 𝕄)) h1.symm
    have e2 : (((lV).view.loc (thr d L) ↦[{eix ((⟨o + j.val, by omega⟩ : Fin m).castLE hm)}]{fullShare} fI) : sProp 𝕄)
        = ((lS o hoL).view.loc (thr d L) ↦[{(lS o hoL).view.emb (S32.rowMajor.symm (j.cast _))}]{fullShare} fI) :=
      congrArg (fun s => ((lV).view.loc (thr d L) ↦[{s}]{fullShare} fI : sProp 𝕄)) h2.symm
    unfold rowHeld
    iintro ⟨H1, H2, H3⟩
    isplitl [H1]; · iapply (Entails.of_eq e1) $$ H1
    isplitl [H2]; · iapply (Entails.of_eq e2) $$ H2
    iexact H3
  · intro j
    have hj : j.val < 32 := j.isLt
    have h1 := wS_row o hoW j
    have h2 := lS_entry o hoL rfl j (by omega)
    have e2 : ((lS o hoL).view.loc (thr d L) ↦[{(lS o hoL).view.emb (S32.rowMajor.symm (j.cast _))}]{fullShare} fI)
        = (((lV).view.loc (thr d L) ↦[{eix ((⟨o + j.val, by omega⟩ : Fin m).castLE hm)}]{fullShare} fI) : sProp 𝕄) :=
      congrArg (fun s => ((lV).view.loc (thr d L) ↦[{s}]{fullShare} fI : sProp 𝕄)) h2
    unfold rowHeld
    iintro ⟨H1, H2, H3⟩
    isplitl [H1]
    · refine Entails.of_eq (Eq.trans ?_ (congrArg (fun s => ((wV).view.loc (thr d L) ↦[s]{fullShare} (fetched T fI m fW) : sProp 𝕄)) h1))
      refine pointsTo_congr fun p hp => ?_
      obtain ⟨i, -, rfl⟩ := Finset.mem_map.mp hp
      rw [View.write_emb_of_mem _ _ (Finset.mem_univ i)]
      have hi0 : (i 0).val < 1 := (i 0).isLt
      have hi1 : (i 1).val < 128 := (i 1).isLt
      have hemb : ((wS o hoW).view.slice (S32x128.rowRect gathers_S200704x128_S32x128.axis' j)).emb i
          = wix ⟨o + j.val, by omega⟩ ⟨(i 1).val, hi1⟩ := by
        funext a
        apply Fin.ext
        match a with
        | 0 => show o + 1 * (j.val + 1 * (i 0).val) = o + j.val; omega
        | 1 => show 0 + 1 * (0 + 1 * (i 1).val) = (i 1).val; omega
      rw [hemb]
      have hl := hin (eix ⟨o + j.val, by omega⟩)
      refine Eq.trans ?_ (fetched_wix (F := F) T fI fW (show o + j.val < m by omega) hm hl ⟨(i 1).val, hi1⟩).symm
      refine (cast_eq _ _).trans ((View.read_apply _ _).trans ((cast_eq _ _).trans ?_))
      refine congrArg T ?_
      funext a
      apply Fin.ext
      match a with
      | 0 =>
        show 0 + 1 * ((lS o hoL).view.read (Elt F) fI (S32.rowMajor.symm (j.cast _))).toNat = _
        rw [hre, h2]
        show 0 + 1 * (fI (eix ⟨o + j.val, _⟩)).toNat = (fI (eix ⟨o + j.val, _⟩)).toNat
        omega
      | 1 =>
        show 0 + 1 * (i 1).val = (i 1).val
        omega
    isplitl [H2]; · iapply (Entails.of_eq e2) $$ H2
    iexact H3

/-! ## The seven chunks -/

/-- Before the issue of row `o` of the first `m`: the rows before it under way, the others at hand. -/
abbrev Under (fW : S224x128.Idx → F .f32) {m : ℕ} (hm : m ≤ 224) (o : ℕ) : sProp 𝕄 :=
  iprop(Transfers.Batch countersEmb (thr d L) (.dma cc1_scratch4.sem) (default : HIx 1) rowN
      (fun t : Fin m => rowHeld d L xq T fI (fetched T fI m fW) (t.castLE hm)) o 0
    ∗ bigSep (Transfers.pending o) (fun t : Fin m => rowHeld d L xq T fI fW (t.castLE hm)))

/-- One chunk's issue under its guard, and the program after it. -/
def chunk {α : Type} (v117 : BitVec 32) (b : BitVec 32) (o : ℕ)
    (hoW : ∀ a, ![o, 0] a + S32x128.size a ≤ S224x128.size a) (hoL : ∀ a, ![o] a + S32.size a ≤ S224.size a)
    (k : PUnit.{1} → Prog (TpuEff nD τ sig (Elt F) Λ₀ (thr d L).2) α) :
    Prog (TpuEff nD τ sig (Elt F) Λ₀ (thr d L).2) α :=
  if Scalar.cmpi .ne (Scalar.extui (Scalar.cmpi .sgt v117 b)) 0#32 = 1#1 then
    SparseCore.enqueueIndirectGather rfl xS (wS o hoW) gathers_S200704x128_S32x128 (lS o hoL) rfl cc1_scratch4.sem
      (View.wordExact_bits rfl) rfl (Or.inl rfl) >>= fun _ => k ⟨⟩
  else k ⟨⟩

theorem issue_if (fW : S224x128.Idx → F .f32) (hin : ∀ p : S224.Idx, (fI p).toNat < 200704) {n c : ℕ} (hc : c ≤ 196)
    (hn : n = (c + 31) / 32) (hm : 32 * n ≤ 224) (j : ℕ) (hj : j < 7) (hoW) (hoL)
    {α : Type} {k : PUnit.{1} → Prog (TpuEff nD τ sig (Elt F) Λ₀ (thr d L).2) α} {Q : α → sProp 𝕄} :
    Under d L xq T fI fW hm (32 * min j n)
      ⊢ iprop((Under d L xq T fI fW hm (32 * min (j + 1) n) -∗ wpT d L (k ⟨⟩) Q)
        -∗ wpT d L (chunk d L (BitVec.ofNat 32 c) (BitVec.ofNat 32 (32 * j)) (32 * j) hoW hoL k) Q) := by
  unfold chunk
  have hg := guard_iff (n := c) (o := 32 * j) hc (by omega)
  by_cases hlt : 32 * j < c
  · rw [if_pos (hg.mpr hlt), show min j n = j by omega, show min (j + 1) n = j + 1 by omega, show 32 * (j + 1) = 32 * j + 32 by omega]
    exact issue d L xq T fI hm fW hin (32 * j) hoW hoL (by omega) (k := fun _ => k ⟨⟩)
  · rw [if_neg (fun h => hlt (hg.mp h)), show min j n = n by omega, show min (j + 1) n = n by omega]
    iintro H Hk
    iapply Hk
    iexact H

/-- The seven chunks and what follows. -/
def chunks {α : Type} (v117 : BitVec 32) (k : PUnit.{1} → Prog (TpuEff nD τ sig (Elt F) Λ₀ (thr d L).2) α) :
    Prog (TpuEff nD τ sig (Elt F) Λ₀ (thr d L).2) α :=
  chunk d L v117 0#32 0 inb_S224x128_S32x128_0_0 inb_S224_S32_0 fun (_ : PUnit.{1}) =>
  chunk d L v117 32#32 32 inb_S224x128_S32x128_32_0 inb_S224_S32_32 fun (_ : PUnit.{1}) =>
  chunk d L v117 64#32 64 inb_S224x128_S32x128_64_0 inb_S224_S32_64 fun (_ : PUnit.{1}) =>
  chunk d L v117 96#32 96 inb_S224x128_S32x128_96_0 inb_S224_S32_96 fun (_ : PUnit.{1}) =>
  chunk d L v117 128#32 128 inb_S224x128_S32x128_128_0 inb_S224_S32_128 fun (_ : PUnit.{1}) =>
  chunk d L v117 160#32 160 inb_S224x128_S32x128_160_0 inb_S224_S32_160 fun (_ : PUnit.{1}) =>
  chunk d L v117 192#32 192 inb_S224x128_S32x128_192_0 inb_S224_S32_192 k

theorem issue_all (fW : S224x128.Idx → F .f32) (hin : ∀ p : S224.Idx, (fI p).toNat < 200704) {n c : ℕ} (hc : c ≤ 196)
    (hn : n = (c + 31) / 32) (hm : 32 * n ≤ 224)
    {α : Type} {k : PUnit.{1} → Prog (TpuEff nD τ sig (Elt F) Λ₀ (thr d L).2) α} {Q : α → sProp 𝕄} :
    Under d L xq T fI fW hm 0
      ⊢ iprop((Under d L xq T fI fW hm (32 * n) -∗ wpT d L (k ⟨⟩) Q) -∗ wpT d L (chunks d L (BitVec.ofNat 32 c) k) Q) := by
  have h0 : Under (F := F) d L xq T fI fW hm 0 = Under d L xq T fI fW hm (32 * min 0 n) := by rw [Nat.zero_min]
  have h7 : Under (F := F) d L xq T fI fW hm (32 * n) = Under d L xq T fI fW hm (32 * min (6 + 1) n) := by
    rw [show min (6 + 1) n = n by omega]
  rw [h0, h7]
  unfold chunks
  iintro H Hk
  iapply (issue_if d L xq T fI fW hin hc hn hm 0 (by omega) _ _) $$ H; iintro H
  iapply (issue_if d L xq T fI fW hin hc hn hm 1 (by omega) _ _) $$ H; iintro H
  iapply (issue_if d L xq T fI fW hin hc hn hm 2 (by omega) _ _) $$ H; iintro H
  iapply (issue_if d L xq T fI fW hin hc hn hm 3 (by omega) _ _) $$ H; iintro H
  iapply (issue_if d L xq T fI fW hin hc hn hm 4 (by omega) _ _) $$ H; iintro H
  iapply (issue_if d L xq T fI fW hin hc hn hm 5 (by omega) _ _) $$ H; iintro H
  iapply (issue_if d L xq T fI fW hin hc hn hm 6 (by omega) _ _) $$ H; iintro H
  iapply Hk
  iexact H

/-! ## The waits -/

/-- Before wait `k`: every copy issued, the first `k` chunks waited for. -/
abbrev WInv (fW : S224x128.Idx → F .f32) {m : ℕ} (hm : m ≤ 224) (O : CellTallies nD τ sig (HIx 1)) (W : Waits sig (HIx 1))
    (k : ℕ) (_ : BitVec 32) : sProp 𝕄 :=
  iprop(Transfers.MayWaits (thr d L) (default : HIx 1) O ∗ Transfers.Batch countersEmb (thr d L) (.dma cc1_scratch4.sem) (default : HIx 1) rowN
      (fun t : Fin m => rowHeld d L xq T fI (fetched T fI m fW) (t.castLE hm)) m (k * (32 * rowN))
    ∗ ∃ W', ⌜∀ p ∈ W', p ∈ W ∨ p.2 = none⌝ ∗ owes (thr d L) O W')

theorem t5_trip (fW : S224x128.Idx → F .f32) {n c : ℕ} (hc0 : 0 < c) (hc : c ≤ 196) (hn : n = (c + 31) / 32) (hm : 32 * n ≤ 224)
    (O : CellTallies nD τ sig (HIx 1)) (W : Waits sig (HIx 1)) (hw1 : k1_chk1 (BitVec.ofNat 32 c))
    (t2 : Fin k1_t2_loop.trips) (v10 v166 c32 v167 : BitVec 32)
    (k : Fin (k1_t5_loop (BitVec.ofNat 32 c)).trips) (a : BitVec 32) :
    WInv d L xq T fI fW hm O W k.val a ⊢ wpT d L
      (k1_t5_body L xV (Memref.isWhole_whole _) rV (Memref.isWhole_whole _) oV (Memref.isWhole_whole _) cV (Memref.isWhole_whole _)
        lV (Memref.isWhole_whole _) wV (Memref.isWhole_whole _) sV (Memref.isWhole_whole _) cc1_scratch4 cc1_scoped0 cc1_scoped1
        t2 v10 (BitVec.ofNat 32 c) hw1 v166 c32 v167 k a)
      (WInv d L xq T fI fW hm O W (k.val + 1)) := by
  have hk : k.val < n := by
    have h1 := k.isLt
    have h2 := (trips5 ⟨c, by omega⟩ hc0).2
    dsimp only at h2
    omega
  have hu : k.val * (32 * rowN) + 32 * rowN ≤ rowN * (32 * n) := by
    have : (k.val + 1) * (32 * rowN) ≤ n * (32 * rowN) := Nat.mul_le_mul_right _ hk
    rw [Nat.add_mul, Nat.one_mul] at this
    calc _ ≤ n * (32 * rowN) := this
      _ = rowN * (32 * n) := by ring
  unfold wpT
  have he : ∀ a', (k1_t5_body (F := F) L xV (Memref.isWhole_whole _) rV (Memref.isWhole_whole _) oV (Memref.isWhole_whole _) cV (Memref.isWhole_whole _)
        lV (Memref.isWhole_whole _) wV (Memref.isWhole_whole _) sV (Memref.isWhole_whole _) cc1_scratch4 cc1_scoped0 cc1_scoped1
        t2 v10 (BitVec.ofNat 32 c) hw1 v166 c32 v167 k a') = Prog.op (TpuEff.waitDma2 (p := (thr d L).2) cc1_scratch4.sem xS (wS 0 inb_S224x128_S32x128_0_0)
          (View.wordExact_bits rfl) (View.wordExact_bits rfl)) fun _ => Prog.ret 0#32 := fun _ => rfl
  rw [he]
  iintro ⟨#Hmw, HB, %W', %hW', HO⟩
  ihave Hm := (Transfers.MayWaits.elim (SemLoc.dma cc1_scratch4.sem)) $$ Hmw
  iapply (Transfers.wp_waitBatchMulO countersEmb 𝒱₀ (thr d L) none (default : HIx 1) 32
    (by decide : (wS 0 inb_S224x128_S32x128_0_0).view.dmaCredit = 32 * rowN) hu) $$ [HB HO Hm]
  · isplitl [HB]; · iexact HB
    isplitl [HO]; · iexact HO
    iexact Hm
  iintro ⟨HB, HO⟩
  sl_step
  isplitr; · iexact Hmw
  isplitl [HB]
  · rw [show (k.val + 1) * (32 * rowN) = k.val * (32 * rowN) + 32 * rowN from by rw [Nat.add_mul, Nat.one_mul]]
    iexact HB
  iexists _
  isplitr
  swap; · iexact HO
  ipureintro; intro p hp
  rcases Finset.mem_insert.mp hp with hp | hp; · exact .inr (hp ▸ rfl)
  exact hW' p hp

end Cert.KernelIdeal.Pool
-- ==== Proof.IdealRoi.lean ====
module

public import proofs.«01_k».proof.Proof.IdealGather

@[expose] public section

noncomputable section

namespace Cert.KernelIdeal.Pool

open Cert.KernelIdeal Cert.KernelIdeal.Gen Cert.KernelIdeal.Arith Cert.PoolWords

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] (d : Dev nD) (L : grid1.Coords)

/-! ## Loops at the head of a program -/

theorem loop_bind {σ α : Type} (l : Scf.Loop 32) (ok : l.OK) (init : σ)
    (body : Fin l.trips → σ → Prog (TpuEff nD τ sig (Elt F) Λ₀ (thr d L).2) σ) (I : ℕ → σ → sProp 𝕄)
    (hbody : ∀ (k : Fin l.trips) (acc : σ), I k.val acc ⊢ wpT d L (body k acc) (I (k.val + 1)))
    {kk : σ → Prog (TpuEff nD τ sig (Elt F) Λ₀ (thr d L).2) α} {Q : α → sProp 𝕄} :
    I 0 init ⊢ iprop((∀ acc, I l.trips acc -∗ wpT d L (kk acc) Q) -∗ wpT d L (Scf.Loop.for l ok init body >>= kk) Q) :=
  Scf.wp_for_bind frame (wpE (defs₀ (F := F)) 𝒱₀ (thr d L) none) Set.univ l.lb l.ub l.st ok init body I hbody

theorem loop_none {σ α : Type} (l : Scf.Loop 32) (ok : l.OK) (init : σ)
    (body : Fin l.trips → σ → Prog (TpuEff nD τ sig (Elt F) Λ₀ (thr d L).2) σ) (h : l.trips = 0)
    {kk : σ → Prog (TpuEff nD τ sig (Elt F) Λ₀ (thr d L).2) α} {Q : α → sProp 𝕄} :
    wpT d L (kk init) Q ⊢ wpT d L (Scf.Loop.for l ok init body >>= kk) Q := by
  iintro H
  iapply (loop_bind d L l ok init body (fun _ a => iprop(⌜a = init⌝)) (fun k => absurd k.isLt (by omega)))
  · ipureintro; rfl
  iintro %acc %ha
  subst ha
  iexact H

/-- The sixth part: the list's loop, the chunks. -/
theorem part6_eq (v17 v22 v29 v36 : IVec S16 32) (v54 : BitVec 32) (v82 v111 : IVec S16 32) (v117 : BitVec 32) (hw1 : k1_chk1 v117) (v136 : BitVec 32) :
    k1_part6 (F := F) L xV (Memref.isWhole_whole _) rV (Memref.isWhole_whole _) oV (Memref.isWhole_whole _) cV (Memref.isWhole_whole _)
        lV (Memref.isWhole_whole _) wV (Memref.isWhole_whole _) sV (Memref.isWhole_whole _) cc1_scratch4 cc1_scoped0 cc1_scoped1
        v17 v22 v29 v36 v54 v82 v111 v117 hw1 v136
      = (Scf.Loop.for (k1_t3_loop v117) (k1_t3_ok v117 hw1) 0#32 (k1_t3_body L xV (Memref.isWhole_whole _) rV (Memref.isWhole_whole _)
            oV (Memref.isWhole_whole _) cV (Memref.isWhole_whole _) lV (Memref.isWhole_whole _) wV (Memref.isWhole_whole _) sV (Memref.isWhole_whole _)
            cc1_scratch4 cc1_scoped0 cc1_scoped1 v17 v22 v29 v36 v54 v82 v111 v117 hw1 v136)
          >>= fun v142 => Scf.Loop.for (k1_t4_loop v117) (k1_t4_ok v117 hw1) v142 (k1_t4_body L xV (Memref.isWhole_whole _) rV (Memref.isWhole_whole _)
            oV (Memref.isWhole_whole _) cV (Memref.isWhole_whole _) lV (Memref.isWhole_whole _) wV (Memref.isWhole_whole _) sV (Memref.isWhole_whole _)
            cc1_scratch4 cc1_scoped0 cc1_scoped1 v17 v22 v29 v36 v54 v82 v111 v117 hw1 v136
              (Scalar.addi 0#32 (Scalar.muli (Scalar.divsi (Scalar.subi v136 0#32) 1#32) 1#32)))
          >>= fun _ => chunks d L v117 fun (_ : PUnit.{1}) => Prog.ret ⟨Scalar.subi (Scalar.addi v117 32#32) 1#32, 32#32,
            Scalar.divsi (Scalar.subi (Scalar.addi v117 32#32) 1#32) 32#32⟩) := by
  rw [k1_part6_eq_skeleton]
  unfold k1_part6_skel chunks chunk
  rfl

section Roi

variable (g x y w h : ℕ) (hw1 : k1_chk1 (BitVec.ofNat 32 (cntOf w h)))

/-- How many chunks a region's samples fill. -/
def nch (w h : ℕ) : ℕ := (cntOf w h + 31) / 32

theorem nch_le (hw : w < 112) (hh : h < 112) : 32 * nch w h ≤ 224 := by
  have := cntOf_le hw hh
  unfold nch
  omega

variable (xq : PosShare TreeShare) (T : S200704x128.Idx → F .f32)

/-- The list of a region: every entry a row, the samples' rows first. -/
def IsList (fI : S224.Idx → BitVec 32) : Prop :=
  (∀ p : S224.Idx, (fI p).toNat < 200704) ∧ ∀ p : S224.Idx, (p 0).val < cntOf w h → fI p = BitVec.ofNat 32 (idxOf g x y w h (p 0).val)

/-- After the issues: every copy of the region's chunks under way, the other rows at hand. -/
def Issued (hm : 32 * nch w h ≤ 224) : sProp 𝕄 :=
  iprop(∃ fI fW, ⌜IsList g x y w h fI⌝ ∗ Transfers.Batch countersEmb (thr d L) (.dma cc1_scratch4.sem) (default : HIx 1) rowN
      (fun t : Fin (32 * nch w h) => rowHeld d L xq T fI (fetched T fI (32 * nch w h) fW) (t.castLE hm)) (32 * nch w h) 0
    ∗ bigSep (Finset.univ.filter fun t : Fin 224 => ¬ t.val < 32 * nch w h) (rowHeld d L xq T fI fW))

set_option maxHeartbeats 1000000 in
theorem part6_wp (hg : g < 4) (hx : x < 112) (hy : y < 112) (hw : w < 112) (hh : h < 112) (v136 : BitVec 32) :
    iprop((∃ f, ((lV).view.loc (thr d L) ↦{fullShare} f) ∗ ⌜∀ p : S224.Idx, (f p : BitVec 32).toNat < 200704⌝)
        ∗ (∃ f, (wV).view.loc (thr d L) ↦{fullShare} f) ∗ ((xV).view.loc (thr d L) ↦{xq} T)
        ∗ semVal (thr d L, .dma cc1_scratch4.sem) 0)
      ⊢ wpT d L
      (k1_part6 L xV (Memref.isWhole_whole _) rV (Memref.isWhole_whole _) oV (Memref.isWhole_whole _) cV (Memref.isWhole_whole _)
        lV (Memref.isWhole_whole _) wV (Memref.isWhole_whole _) sV (Memref.isWhole_whole _) cc1_scratch4 cc1_scoped0 cc1_scoped1
        (wv x) (wv y) (wv (w - 8)) (wv (h - 8)) (BitVec.ofNat 32 (g * 50176)) (wv (steps w)) (wv (cntOf w h)) (BitVec.ofNat 32 (cntOf w h))
        hw1 v136) (fun _ => Issued d L g x y w h xq T (nch_le w h hw hh)) := by
  have hc0 := cntOf_pos w h
  have hc := cntOf_le hw hh
  have ht3 := (trips3 ⟨cntOf w h, by omega⟩ hc0).2
  have ht4 := (trips4 ⟨cntOf w h, by omega⟩ hc0).2
  have hm := nch_le w h hw hh
  have hin : ∀ {f : S224.Idx → BitVec 32}, ((∀ p : S224.Idx, (f p : BitVec 32).toNat < 200704)
      ∧ ∀ p : S224.Idx, (p 0).val < 16 * (k1_t3_loop (BitVec.ofNat 32 (cntOf w h))).trips → f p = BitVec.ofNat 32 (entryOf g x y w h (p 0).val))
      → IsList g x y w h f := fun {f} hf => ⟨hf.1, fun p hp => by
    dsimp only at ht3
    rw [hf.2 p (by omega), entryOf_eq hp]⟩
  rw [part6_eq]
  iintro ⟨⟨%f0, Hl, %hf0⟩, ⟨%fW, Hw⟩, Hx, Hsem⟩
  iapply (loop_bind d L (k1_t3_loop (BitVec.ofNat 32 (cntOf w h))) _ _ _ (LInv (F := F) d L g x y w h)
    (fun k acc => t3_trip d L g x y w h hw1 hg hx hy hw hh v136 k acc)) $$ [Hl]
  · iexists f0
    isplitl [Hl]; · iexact Hl
    ipureintro
    exact ⟨hf0, fun p hp => absurd hp (by omega)⟩
  iintro %acc ⟨%fI, Hl, %hf⟩
  have hI := hin hf
  iapply (loop_none d L (k1_t4_loop (BitVec.ofNat 32 (cntOf w h))) _ _ _ ht4)
  imod (Transfers.batch_alloc' (Lvl := ℕ) countersEmb (c := thr d L) (default : HIx 1) rowN
    (fun t : Fin (32 * nch w h) => rowHeld d L xq T fI (fetched T fI (32 * nch w h) fW) (t.castLE hm))
    (sm := .dma cc1_scratch4.sem) (E := Set.univ)) $$ Hsem with HB
  ihave Hrows := (Entails.of_eq (rows_eq (F := F) d L xq T fI fW)) $$ [Hw Hl Hx]
  · isplitl [Hw]; · iexact Hw
    isplitl [Hl]; · iexact Hl
    iexact Hx
  ihave Hrows' := (Entails.of_eq (rows_split hm (rowHeld d L xq T fI fW))) $$ Hrows
  icases Hrows' with ⟨Hlo, Hhi⟩
  iapply (issue_all d L xq T fI fW hI.1 hc (n := nch w h) rfl hm) $$ [HB Hlo]
  · isplitl [HB]; · iexact HB
    rw [Transfers.pending_zero]
    iexact Hlo
  iintro ⟨HB, -⟩
  unfold wpT
  sl_step
  unfold Issued
  iexists fI, fW
  isplitr; · ipureintro; exact hI
  isplitl [HB]; · iexact HB
  iexact Hhi

end Roi

end Cert.KernelIdeal.Pool
-- ==== Proof.IdealTrip.lean ====
module

public import proofs.«01_k».proof.Proof.IdealRoi

@[expose] public section

noncomputable section

namespace Cert.KernelIdeal.Pool

open Cert.KernelIdeal Cert.KernelIdeal.Gen Cert.KernelIdeal.Arith Cert.PoolWords

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] (d : Dev nD) (L : grid1.Coords)

/-! ## The last part of a region's trip -/

/-- The seventh part: the waits' loop, the pooling loop, the first two stores. -/
theorem part7_eq (t2 : Fin k1_t2_loop.trips) (v10 v117 : BitVec 32) (hw1 : k1_chk1 v117) (v166 c32 v167 : BitVec 32) :
    k1_part7 (F := F) L xV (Memref.isWhole_whole _) rV (Memref.isWhole_whole _) oV (Memref.isWhole_whole _) cV (Memref.isWhole_whole _)
        lV (Memref.isWhole_whole _) wV (Memref.isWhole_whole _) sV (Memref.isWhole_whole _) cc1_scratch4 cc1_scoped0 cc1_scoped1
        t2 v10 v117 hw1 v166 c32 v167
      = (Scf.Loop.for (k1_t5_loop v117) (k1_t5_ok v117 hw1) 0#32 (k1_t5_body L xV (Memref.isWhole_whole _) rV (Memref.isWhole_whole _)
            oV (Memref.isWhole_whole _) cV (Memref.isWhole_whole _) lV (Memref.isWhole_whole _) wV (Memref.isWhole_whole _) sV (Memref.isWhole_whole _)
            cc1_scratch4 cc1_scoped0 cc1_scoped1 t2 v10 v117 hw1 v166 c32 v167)
          >>= fun v189 => Scf.Loop.for (k1_t6_loop v117) (k1_t6_ok v117 hw1) v189 (k1_t6_body L xV (Memref.isWhole_whole _) rV (Memref.isWhole_whole _)
            oV (Memref.isWhole_whole _) cV (Memref.isWhole_whole _) lV (Memref.isWhole_whole _) wV (Memref.isWhole_whole _) sV (Memref.isWhole_whole _)
            cc1_scratch4 cc1_scoped0 cc1_scoped1 t2 v10 v117 hw1 v166 c32 v167)
          >>= fun _ => Scf.Loop.for (k1_t7_loop v117) (k1_t7_ok v117 hw1) (k1_pay12 (F := F), k1_pay12 (F := F), k1_pay12 (F := F), k1_pay12 (F := F),
              k1_pay12 (F := F), k1_pay12 (F := F)) (k1_t7_body L xV (Memref.isWhole_whole _) rV (Memref.isWhole_whole _)
            oV (Memref.isWhole_whole _) cV (Memref.isWhole_whole _) lV (Memref.isWhole_whole _) wV (Memref.isWhole_whole _) sV (Memref.isWhole_whole _)
            cc1_scratch4 cc1_scoped0 cc1_scoped1 t2 v10 v117 hw1 v166 c32 v167)
          >>= fun a => Scf.Loop.for (k1_t8_loop v117) (k1_t8_ok v117 hw1) a (k1_t8_body L xV (Memref.isWhole_whole _) rV (Memref.isWhole_whole _)
            oV (Memref.isWhole_whole _) cV (Memref.isWhole_whole _) lV (Memref.isWhole_whole _) wV (Memref.isWhole_whole _) sV (Memref.isWhole_whole _)
            cc1_scratch4 cc1_scoped0 cc1_scoped1 t2 v10 v117 hw1 v166 c32 v167)
          >>= fun a => Prog.lift (.load sV (Rect.unit (s := S8x96) (k1_off18 t2) S1x16.size (k1_off18_inb t2)).toLoadRect (View.loadsAt_vmem h_S1x16))
          >>= fun _ => Prog.lift (.store sV (Rect.unit (s := S8x96) (k1_off18 t2) S1x16.size (k1_off18_inb t2)) (shapeCast S1x16 a.1 shapeCasts_S16_S1x16)
            Finset.univ (View.stores_vmem_bits_univ h_S1x16 rfl) (.inl rfl))
          >>= fun _ => Prog.lift (.load sV (Rect.unit (s := S8x96) (k1_off19 t2) S1x16.size (k1_off19_inb t2)).toLoadRect (View.loadsAt_vmem h_S1x16))
          >>= fun _ => Prog.lift (.store sV (Rect.unit (s := S8x96) (k1_off19 t2) S1x16.size (k1_off19_inb t2)) (shapeCast S1x16 a.2.1 shapeCasts_S16_S1x16)
            Finset.univ (View.stores_vmem_bits_univ h_S1x16 rfl) (.inl rfl))
          >>= fun _ => Prog.lift (.load sV (Rect.unit (s := S8x96) (k1_off20 t2) S1x16.size (k1_off20_inb t2)).toLoadRect (View.loadsAt_vmem h_S1x16))
          >>= fun v => Prog.ret ⟨a.2.2.1, a.2.2.2.1, a.2.2.2.2.1, a.2.2.2.2.2, v⟩) := by
  rw [k1_part7_eq_skeleton]
  unfold k1_part7_skel
  rfl

section Roi

variable (g x y w h : ℕ) (hw1 : k1_chk1 (BitVec.ofNat 32 (cntOf w h))) (xq : PosShare TreeShare) (T : S200704x128.Idx → F .f32)

theorem store_val (g x y w h : ℕ) (T : S200704x128.Idx → F .f32) (k ch : ℕ) (j : Fin 16) :
    shapeCast S1x16 (accs g x y w h T k ch) shapeCasts_S16_S1x16 (vix j)
      = runMax (fun r => tAt T (idxOf g x y w h r) (16 * ch + j.val)) k := by
  have he : Shape.reshapeEquiv shapeCasts_S16_S1x16 (vix j) = lix j := by
    apply Shape.reshapeEquiv_eq_of_rowMajor
    rw [Shape.rowMajor_val_two, Shape.rowMajor_val_one]
    show j.val = 0 * 16 + j.val
    omega
  show accs g x y w h T k ch (Shape.reshapeEquiv shapeCasts_S16_S1x16 (vix j)) = _
  rw [he]
  rfl

/-- Two stores of sixteen lanes each, side by side in one row, on top of what was there. -/
theorem two_stores (g x y w h : ℕ) (T : S200704x128.Idx → F .f32) (k ch : ℕ) (v0 : F .f32) (r : ℕ) (p : S8x96.Idx) {o o' : ℕ} (ho : o = 16 * ch)
    (ho' : o' = 16 * (ch + 1)) :
    (if hp : (p 0).val = r ∧ o' ≤ (p 1).val ∧ (p 1).val < o' + 16
        then shapeCast S1x16 (accs g x y w h T k (ch + 1)) shapeCasts_S16_S1x16 (vix ⟨(p 1).val - o', by omega⟩)
      else if hp : (p 0).val = r ∧ o ≤ (p 1).val ∧ (p 1).val < o + 16
        then shapeCast S1x16 (accs g x y w h T k ch) shapeCasts_S16_S1x16 (vix ⟨(p 1).val - o, by omega⟩) else v0)
      = if (p 0).val = r ∧ o ≤ (p 1).val ∧ (p 1).val < o + 32 then runMax (fun r => tAt T (idxOf g x y w h r) (p 1).val) k else v0 := by
  subst ho ho'
  split
  · next hp =>
    rw [store_val, if_pos ⟨hp.1, by omega, by omega⟩]
    dsimp only
    rw [show 16 * (ch + 1) + ((p 1).val - 16 * (ch + 1)) = (p 1).val from by omega]
  · split
    · next hp =>
      rw [store_val, if_pos ⟨hp.1, by omega, by omega⟩]
      dsimp only
      rw [show 16 * ch + ((p 1).val - 16 * ch) = (p 1).val from by omega]
    · rw [if_neg (by omega)]

/-- A row no copy touches is the same before and after. -/
theorem row_rest (fI : S224.Idx → BitVec 32) (m : ℕ) (fW : S224x128.Idx → F .f32) (t : Fin 224) (ht : m ≤ t.val) :
    rowHeld d L xq T fI fW t ⊢ rowHeld d L xq T fI (fetched T fI m fW) t := by
  have h : ((((wV).view.loc (thr d L) ↦[rowW t.val]{fullShare} fW) : sProp 𝕄))
      = ((wV).view.loc (thr d L) ↦[rowW t.val]{fullShare} (fetched T fI m fW)) :=
    pointsTo_congr fun p hp => (if_neg (by have := mem_rowW.mp hp; omega)).symm
  unfold rowHeld
  iintro ⟨H1, H2, H3⟩
  isplitl [H1]; · iapply (Entails.of_eq h) $$ H1
  isplitl [H2]; · iexact H2
  iexact H3

theorem rows_rest (fI : S224.Idx → BitVec 32) (m : ℕ) (fW : S224x128.Idx → F .f32) :
    (bigSep (Finset.univ.filter fun t : Fin 224 => ¬ t.val < m) (rowHeld d L xq T fI fW) : sProp 𝕄)
      ⊢ bigSep (Finset.univ.filter fun t : Fin 224 => ¬ t.val < m) (rowHeld d L xq T fI (fetched T fI m fW)) :=
  BI.bigSep_mono fun t ht => row_rest d L xq T fI m fW t (not_lt.mp (Finset.mem_filter.mp ht).2)

/-- What a region's trip gives back, its samples fetched. -/
def Fetched (O : CellTallies nD τ sig (HIx 1)) (W : Waits sig (HIx 1)) : sProp 𝕄 :=
  iprop((∃ f, ((lV).view.loc (thr d L) ↦{fullShare} f) ∗ ⌜∀ p : S224.Idx, (f p : BitVec 32).toNat < 200704⌝)
    ∗ (∃ f, (wV).view.loc (thr d L) ↦{fullShare} f) ∗ ((xV).view.loc (thr d L) ↦{xq} T)
    ∗ semVal (thr d L, .dma cc1_scratch4.sem) 0 ∗ ∃ W', ⌜∀ p ∈ W', p ∈ W ∨ p.2 = none⌝ ∗ owes (thr d L) O W')

set_option maxHeartbeats 1000000 in
theorem part7_wp (hg : g < 4) (hx : x < 112) (hy : y < 112) (hw : w < 112) (hh : h < 112) (O : CellTallies nD τ sig (HIx 1)) (W : Waits sig (HIx 1))
    (fS : S8x96.Idx → F .f32) (t2 : Fin k1_t2_loop.trips) (v10 v166 c32 v167 : BitVec 32) :
    iprop(Transfers.MayWaits (thr d L) (default : HIx 1) O ∗ Issued d L g x y w h xq T (nch_le w h hw hh)
        ∗ ((sV).view.loc (thr d L) ↦{fullShare} fS) ∗ ∃ W', ⌜∀ p ∈ W', p ∈ W ∨ p.2 = none⌝ ∗ owes (thr d L) O W')
      ⊢ wpT d L
      (k1_part7 L xV (Memref.isWhole_whole _) rV (Memref.isWhole_whole _) oV (Memref.isWhole_whole _) cV (Memref.isWhole_whole _)
        lV (Memref.isWhole_whole _) wV (Memref.isWhole_whole _) sV (Memref.isWhole_whole _) cc1_scratch4 cc1_scoped0 cc1_scoped1
        t2 v10 (BitVec.ofNat 32 (cntOf w h)) hw1 v166 c32 v167)
      (fun r => iprop(∃ f, ((sV).view.loc (thr d L) ↦{fullShare} f)
        ∗ ⌜(∀ p : S8x96.Idx, f p = if (p 0).val = t2.val ∧ 0 ≤ (p 1).val ∧ (p 1).val < 0 + 32
              then runMax (fun r => tAt T (idxOf g x y w h r) (p 1).val) (cntOf w h) else fS p)
          ∧ ∃ v, r = ⟨accs g x y w h T (cntOf w h) 2, accs g x y w h T (cntOf w h) 3, accs g x y w h T (cntOf w h) 4,
              accs g x y w h T (cntOf w h) 5, v⟩⌝ ∗ Fetched d L xq T O W)) := by
  have hc0 := cntOf_pos w h
  have hc := cntOf_le hw hh
  have ht5 := (trips5 ⟨cntOf w h, by omega⟩ hc0).2
  have ht6 := (trips6 ⟨cntOf w h, by omega⟩ hc0).2
  have ht7 := (trips7 ⟨cntOf w h, by omega⟩ hc0).2
  have ht8 := (trips8 ⟨cntOf w h, by omega⟩ hc0).2
  dsimp only at ht5 ht6 ht7 ht8
  have hm := nch_le w h hw hh
  have hle : cntOf w h ≤ 32 * nch w h := by unfold nch; omega
  rw [part7_eq]
  unfold Issued
  iintro ⟨#Hmw, ⟨%fI, %fW, %hI, HB, Hhi⟩, Hs, HO⟩
  iapply (loop_bind d L (k1_t5_loop (BitVec.ofNat 32 (cntOf w h))) _ _ _ (WInv d L xq T fI fW hm O W)
    (fun k acc => t5_trip d L xq T fI fW (n := nch w h) hc0 hc rfl hm O W hw1 t2 v10 v166 c32 v167 k acc)) $$ [HB HO]
  · isplitr; · iexact Hmw
    isplitl [HB]
    · rw [Nat.zero_mul]; iexact HB
    iexact HO
  iintro %acc ⟨-, HB, HO⟩
  iapply (loop_none d L (k1_t6_loop (BitVec.ofNat 32 (cntOf w h))) _ _ _ ht6)
  rw [ht5, show (cntOf w h + 31) / 32 * (32 * rowN) = rowN * (32 * nch w h) from by unfold nch; ring]
  imod (Transfers.batch_collect' countersEmb (thr d L) (by decide : 0 < rowN)) $$ HB with ⟨Hlo, Hsem⟩
  ihave Hrows := (Entails.of_eq (rows_split hm (rowHeld d L xq T fI (fetched T fI (32 * nch w h) fW))).symm) $$ [Hlo Hhi]
  · isplitl [Hlo]; · iexact Hlo
    iapply (rows_rest d L xq T fI (32 * nch w h) fW) $$ Hhi
  ihave Hbufs := (Entails.of_eq (rows_eq (F := F) d L xq T fI (fetched T fI (32 * nch w h) fW)).symm) $$ Hrows
  icases Hbufs with ⟨Hw, Hl, Hx⟩
  iapply (loop_bind d L (k1_t7_loop (BitVec.ofNat 32 (cntOf w h))) _ _ _ (MInv (F := F) d L g x y w h T)
    (fun k a => t7_trip d L g x y w h hw1 hw hh T t2 v10 v166 c32 v167 k a)) $$ [Hw]
  · iexists _
    isplitl [Hw]; · iexact Hw
    ipureintro
    refine ⟨fun p hp => ?_, rfl⟩
    refine (if_pos (show (p 0).val < 32 * nch w h by omega)).trans ?_
    rw [hI.2 (eix (p 0)) hp, toNat_nat (lt_trans (idxOf_lt hg hx hy hw hh _) (by omega))]
    rfl
  rw [ht7]
  iintro %a ⟨%fW', Hw, %hf, %ha⟩
  iapply (loop_none d L (k1_t8_loop (BitVec.ofNat 32 (cntOf w h))) _ _ _ ht8)
  subst ha
  unfold wpT
  sl_exec
  sl_step
  iexists _
  isplitl [Hs]; · iexact Hs
  isplitr
  · ipureintro
    refine ⟨fun p => ?_, _, rfl⟩
    rw [res_write fS _ _ t2.val 16 (k1_off19_eq t2), res_write fS _ _ t2.val 0 (k1_off18_eq t2)]
    exact two_stores g x y w h T (cntOf w h) 0 (fS p) t2.val p rfl (by omega)
  unfold Fetched
  isplitl [Hl]
  · iexists fI
    isplitl [Hl]; · iexact Hl
    ipureintro; exact hI.1
  isplitl [Hw]; · iexists _; iexact Hw
  isplitl [Hx]; · iexact Hx
  isplitl [Hsem]; · iexact Hsem
  iexact HO

end Roi

end Cert.KernelIdeal.Pool
-- ==== Proof.IdealTile.lean ====
module

public import proofs.«01_k».proof.Proof.IdealTrip

@[expose] public section

noncomputable section

namespace Cert.KernelIdeal.Pool

open Cert.KernelIdeal Cert.KernelIdeal.Gen Cert.KernelIdeal.Arith Cert.PoolWords

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] (d : Dev nD) (L : grid1.Coords)

/-! ## One region's trip -/

/-- One program after another. -/
theorem seq {α β : Type} {p : Prog (TpuEff nD τ sig (Elt F) Λ₀ (thr d L).2) β} {Φ : β → sProp 𝕄} {P : sProp 𝕄} (hp : P ⊢ wpT d L p Φ)
    {kk : β → Prog (TpuEff nD τ sig (Elt F) Λ₀ (thr d L).2) α} {Q : α → sProp 𝕄} :
    P ⊢ iprop((∀ a, Φ a -∗ wpT d L (kk a) Q) -∗ wpT d L (p >>= kk) Q) := by
  unfold wpT
  rw [wp_bind]
  exact hp.trans (wp_wand frame _ _)

theorem seq_end {α : Type} {p : Prog (TpuEff nD τ sig (Elt F) Λ₀ (thr d L).2) α} {Φ Q : α → sProp 𝕄} {P : sProp 𝕄} (hp : P ⊢ wpT d L p Φ) :
    P ⊢ iprop((∀ a, Φ a -∗ Q a) -∗ wpT d L p Q) :=
  hp.trans (wp_wand frame _ _)

/-- The number of a tile among thirty-two. -/
def wid (L : grid1.Coords) : ℕ := 2 * (L 1).val + (L 0).val

theorem wid_lt : wid L < 32 := by
  have h0 : (L 0).val < 2 := (L 0).isLt
  have h1 : (L 1).val < 16 := (L 1).isLt
  unfold wid
  omega

theorem wid_word : Scalar.addi (Scalar.muli (BitVec.ofNat 32 (L 1).val) 2#32) (BitVec.ofNat 32 (L 0).val) = BitVec.ofNat 32 (wid L) := by
  have h0 : (L 0).val < 2 := (L 0).isLt
  have h1 : (L 1).val < 16 := (L 1).isLt
  show IntOp.addi (IntOp.muli (BitVec.ofNat 32 (L 1).val) (BitVec.ofNat 32 2)) (BitVec.ofNat 32 (L 0).val) = _
  rw [muli_nat, addi_nat]
  congr 1
  unfold wid
  omega

variable (R : ℕ → ℕ)

/-- The regions' numbers as a tile holds them, each sixteen times over. -/
def Held (fC : S512.Idx → BitVec 32) : Prop := ∀ p : S512.Idx, fC p = BitVec.ofNat 32 (R (32 * wid L + (p 0).val / 16))

/-- Sixteen lanes of the regions' numbers. -/
theorem num_load {fC : S512.Idx → BitVec 32} (hC : Held L R fC) (off : Fin 1 → ℕ) (t r : ℕ) (hr : r < 4) (ho : off = ![64 * t + 16 * r])
    (inb : ∀ a, off a + S16.size a ≤ S512.size a) :
    (cV).view.readAt (Elt F) (Rect.unit (s := S512) off S16.size inb).toLoadRect fC = wv (R (4 * (8 * wid L + t) + r)) := by
  subst ho
  funext i
  have hi : (i 0).val < 16 := (i 0).isLt
  rw [View.readAt_rect]
  refine ((View.read_apply _ _).trans (cast_eq _ _)).trans ?_
  refine (hC _).trans ?_
  show BitVec.ofNat 32 (R (32 * wid L + (64 * t + 16 * r + 1 * (i 0).val) / 16)) = BitVec.ofNat 32 (R (4 * (8 * wid L + t) + r))
  congr 2
  omega

theorem part3_wp (hR : InRange R) {fC : S512.Idx → BitVec 32} (hC : Held L R fC) (t2 : Fin k1_t2_loop.trips) (n : ℕ) (hn : n = 8 * wid L + t2.val)
    (hn' : n < 256) :
    ((cV).view.loc (thr d L) ↦{fullShare} fC) ⊢ wpT d L
      (k1_part3 (F := F) L xV (Memref.isWhole_whole _) rV (Memref.isWhole_whole _) oV (Memref.isWhole_whole _) cV (Memref.isWhole_whole _)
        lV (Memref.isWhole_whole _) wV (Memref.isWhole_whole _) sV (Memref.isWhole_whole _) cc1_scratch4 cc1_scoped0 cc1_scoped1
        (BitVec.ofNat 32 (wid L)) 0#32 1#32 t2)
      (fun r => iprop(((cV).view.loc (thr d L) ↦{fullShare} fC)
        ∗ ⌜r = ⟨BitVec.ofNat 32 t2.val, wv (R (4 * n)), wv (R (4 * n + 1)), wv (R (4 * n + 2) - 8), wv (R (4 * n + 3) - 8),
            Scalar.divsi (BitVec.ofNat 32 n) 64#32,
            Scalar.cmpi .ne
              (Scalar.subi (Scalar.extui (Scalar.cmpi .sgt (BitVec.ofNat 32 n) 0#32)) (Scalar.extui (Scalar.cmpi .slt (BitVec.ofNat 32 n) 0#32)))
              (Scalar.subi (Scalar.extui (Scalar.cmpi .sgt 64#32 0#32)) (Scalar.extui (Scalar.cmpi .slt 64#32 0#32))),
            Scalar.remsi (BitVec.ofNat 32 n) 64#32⟩⌝)) := by
  have hv : Scalar.addi (Scalar.muli (BitVec.ofNat 32 (wid L)) 8#32) (Scf.iv 0#32 1#32 t2.val) = BitVec.ofNat 32 n := by
    rw [iv_nat]
    show IntOp.addi (IntOp.muli (BitVec.ofNat 32 (wid L)) (BitVec.ofNat 32 8)) (BitVec.ofNat 32 t2.val) = _
    rw [muli_nat, addi_nat, hn]
    congr 1
    omega
  obtain ⟨h1, h2, ⟨h3, -⟩, h4, -⟩ := hR n hn'
  rw [k1_part3_eq_skeleton]
  unfold k1_part3_skel wpT
  iintro Hc
  sl_exec
  sl_step
  isplitl [Hc]; · iexact Hc
  ipureintro
  rw [show part3_wp.sl.arg10 t2 = BitVec.ofNat 32 t2.val from iv_nat _,
    show part3_wp.sl.v37 L t2 = Scalar.divsi (BitVec.ofNat 32 n) 64#32 from congrArg (Scalar.divsi · 64#32) hv,
    show part3_wp.sl.v49 L t2 = Scalar.remsi (BitVec.ofNat 32 n) 64#32 from congrArg (Scalar.remsi · 64#32) hv,
    show part3_wp.sl.v48 L t2 = Scalar.cmpi .ne
              (Scalar.subi (Scalar.extui (Scalar.cmpi .sgt (BitVec.ofNat 32 n) 0#32)) (Scalar.extui (Scalar.cmpi .slt (BitVec.ofNat 32 n) 0#32)))
              (Scalar.subi (Scalar.extui (Scalar.cmpi .sgt 64#32 0#32)) (Scalar.extui (Scalar.cmpi .slt 64#32 0#32))) from
      congrArg (fun z : BitVec 32 => Scalar.cmpi .ne (Scalar.subi (Scalar.extui (Scalar.cmpi .sgt z 0#32)) (Scalar.extui (Scalar.cmpi .slt z 0#32)))
              (Scalar.subi (Scalar.extui (Scalar.cmpi .sgt 64#32 0#32)) (Scalar.extui (Scalar.cmpi .slt 64#32 0#32)))) hv,
    num_load (F := F) L R hC (k1_off3 t2 0#32) t2.val 0 (by omega) (k1_off3_eq t2 0),
    num_load (F := F) L R hC (k1_off3 t2 1#32) t2.val 1 (by omega) (k1_off3_eq t2 1),
    num_load (F := F) L R hC (k1_off3 t2 2#32) t2.val 2 (by omega) (k1_off3_eq t2 2),
    num_load (F := F) L R hC (k1_off3 t2 3#32) t2.val 3 (by omega) (k1_off3_eq t2 3), ← hn]
  rw [pay4_eq h3, pay5_eq h4]
  rfl

theorem part4_eq {n w h : ℕ} (hn : n < 256) (hw : w < 112) :
    k1_part4 (F := F) L xV (Memref.isWhole_whole _) rV (Memref.isWhole_whole _) oV (Memref.isWhole_whole _) cV (Memref.isWhole_whole _)
        lV (Memref.isWhole_whole _) wV (Memref.isWhole_whole _) sV (Memref.isWhole_whole _) cc1_scratch4 cc1_scoped0 cc1_scoped1
        (wv (w - 8)) (wv (h - 8)) (Scalar.divsi (BitVec.ofNat 32 n) 64#32)
        (Scalar.cmpi .ne
          (Scalar.subi (Scalar.extui (Scalar.cmpi .sgt (BitVec.ofNat 32 n) 0#32)) (Scalar.extui (Scalar.cmpi .slt (BitVec.ofNat 32 n) 0#32)))
          (Scalar.subi (Scalar.extui (Scalar.cmpi .sgt 64#32 0#32)) (Scalar.extui (Scalar.cmpi .slt 64#32 0#32))))
        (Scalar.remsi (BitVec.ofNat 32 n) 64#32)
      = Prog.ret ⟨BitVec.ofNat 32 (n / 64 * 50176), wv (steps w), k1_pay7 (wv (h - 8)), 8#32, k1_pay8 (wv (h - 8)), k1_pay9 (wv (h - 8))⟩ := by
  rw [k1_part4_eq_skeleton, ← base_eq hn, ← pay6_eq hw]
  rfl

/-- How many sixteens hold a number of entries, as the program computes it. -/
def sixteens (v117 : BitVec 32) : BitVec 32 :=
  let v119 : BitVec 32 := Scalar.subi (Scalar.addi v117 16#32) 1#32
  let v120 : BitVec 32 := Scalar.divsi v119 16#32
  Scalar.select (Scalar.andi
      (Scalar.cmpi .ne
        (Scalar.subi (Scalar.extui (Scalar.cmpi .sgt v119 0#32)) (Scalar.extui (Scalar.cmpi .slt v119 0#32)))
        (Scalar.subi (Scalar.extui (Scalar.cmpi .sgt 16#32 0#32)) (Scalar.extui (Scalar.cmpi .slt 16#32 0#32))))
      (Scalar.cmpi .ne (Scalar.remsi v119 16#32) 0#32))
    (Scalar.subi v120 1#32) v120

/-- A check of a value before the program goes on with it. -/
theorem assume_go {α : Type} {chk : BitVec 32 → Prop} (dec : ∀ v, Decidable (chk v)) (v v' : BitVec 32) (hv : v = v') (hk : chk v') (p : IVec S16 32)
    (sx : BitVec 32 → BitVec 32)
    {kk : (Σ' (_ : IVec S16 32) (v117 : BitVec 32) (_ : chk v117), BitVec 32) → Prog (TpuEff nD τ sig (Elt F) Λ₀ (thr d L).2) α}
    {Q : α → sProp 𝕄} :
    iprop(∀ hw1, ∀ v136, wpT d L (kk ⟨p, v', hw1, v136⟩) Q)
      ⊢ wpT d L ((Prog.op (.assume (chk v) (dec v)) fun hp => Prog.ret ⟨p, v, hp.down, sx v⟩) >>= kk) Q := by
  subst hv
  refine BI.Entails.trans ?_ (wp_assume _ (thr d L) _ _ hk)
  show iprop(∀ hw1, ∀ v136, wpT d L (kk ⟨p, v, hw1, v136⟩) Q) ⊢ wpT d L (kk ⟨p, v, hk, sx v⟩) Q
  iintro H
  iapply H

set_option cleanup.letToHave false in
theorem part5_wp {α : Type} {w h : ℕ} (hw : w < 112) (hh : h < 112)
    {kk : (Σ' (_ : IVec S16 32) (v117 : BitVec 32) (_ : k1_chk1 v117), BitVec 32) → Prog (TpuEff nD τ sig (Elt F) Λ₀ (thr d L).2) α}
    {Q : α → sProp 𝕄} :
    iprop(∀ hw1, ∀ v136, wpT d L (kk ⟨wv (cntOf w h), BitVec.ofNat 32 (cntOf w h), hw1, v136⟩) Q)
      ⊢ wpT d L
      (k1_part5 (F := F) L xV (Memref.isWhole_whole _) rV (Memref.isWhole_whole _) oV (Memref.isWhole_whole _) cV (Memref.isWhole_whole _)
        lV (Memref.isWhole_whole _) wV (Memref.isWhole_whole _) sV (Memref.isWhole_whole _) cc1_scratch4 cc1_scoped0 cc1_scoped1
        (wv (steps w)) (k1_pay7 (wv (h - 8))) 8#32 (k1_pay8 (wv (h - 8))) (k1_pay9 (wv (h - 8))) >>= kk) Q := by
  have hv : extractAt ![15] (k1_pay11 (wv (steps w)) (k1_pay7 (wv (h - 8))) 8#32 (k1_pay8 (wv (h - 8))) (k1_pay9 (wv (h - 8)))) inpos_S16_p15
      = BitVec.ofNat 32 (cntOf w h) := by rw [pay11_eq hh]; rfl
  have hk : k1_chk1 (BitVec.ofNat 32 (cntOf w h)) := chk1 _ (cntOf_pos w h) (cntOf_le hw hh)
  rw [k1_part5_eq_skeleton]
  unfold k1_part5_skel
  rw [pay10_eq hh]
  exact assume_go d L k1_chk1.dec _ _ hv hk _ sixteens

/-- Before trip `k` of the regions' loop the first `k` result rows are in place. -/
abbrev PInv (xq : PosShare TreeShare) (T : S200704x128.Idx → F .f32) (fC : S512.Idx → BitVec 32) (O : CellTallies nD τ sig (HIx 1)) (W : Waits sig (HIx 1))
    (k : ℕ) (_ : BitVec 32) : sProp 𝕄 :=
  iprop(Transfers.MayWaits (thr d L) (default : HIx 1) O ∗ ((cV).view.loc (thr d L) ↦{fullShare} fC) ∗ Fetched d L xq T O W
    ∗ ∃ f, ((sV).view.loc (thr d L) ↦{fullShare} f) ∗ ⌜∀ p : S8x96.Idx, (p 0).val < k → f p = outAt T R (8 * wid L + (p 0).val) (p 1).val⌝)

/-- The trip's last four stores. -/
theorem tail_wp (g x y w h : ℕ) (T : S200704x128.Idx → F .f32) (c : ℕ) (f : S8x96.Idx → F .f32) (t2 : Fin k1_t2_loop.trips) :
    ((sV).view.loc (thr d L) ↦{fullShare} f) ⊢ wpT d L
      (Prog.lift (.store sV (Rect.unit (s := S8x96) (k1_off20 t2) S1x16.size (k1_off20_inb t2)) (shapeCast S1x16 (accs g x y w h T c 2) shapeCasts_S16_S1x16)
          Finset.univ (View.stores_vmem_bits_univ h_S1x16 rfl) (.inl rfl))
        >>= fun _ => Prog.lift (.load sV (Rect.unit (s := S8x96) (k1_off21 t2) S1x16.size (k1_off21_inb t2)).toLoadRect (View.loadsAt_vmem h_S1x16))
        >>= fun _ => Prog.lift (.store sV (Rect.unit (s := S8x96) (k1_off21 t2) S1x16.size (k1_off21_inb t2)) (shapeCast S1x16 (accs g x y w h T c 3) shapeCasts_S16_S1x16)
          Finset.univ (View.stores_vmem_bits_univ h_S1x16 rfl) (.inl rfl))
        >>= fun _ => Prog.lift (.load sV (Rect.unit (s := S8x96) (k1_off22 t2) S1x16.size (k1_off22_inb t2)).toLoadRect (View.loadsAt_vmem h_S1x16))
        >>= fun _ => Prog.lift (.store sV (Rect.unit (s := S8x96) (k1_off22 t2) S1x16.size (k1_off22_inb t2)) (shapeCast S1x16 (accs g x y w h T c 4) shapeCasts_S16_S1x16)
          Finset.univ (View.stores_vmem_bits_univ h_S1x16 rfl) (.inl rfl))
        >>= fun _ => Prog.lift (.load sV (Rect.unit (s := S8x96) (k1_off23 t2) S1x16.size (k1_off23_inb t2)).toLoadRect (View.loadsAt_vmem h_S1x16))
        >>= fun _ => Prog.lift (.store sV (Rect.unit (s := S8x96) (k1_off23 t2) S1x16.size (k1_off23_inb t2)) (shapeCast S1x16 (accs g x y w h T c 5) shapeCasts_S16_S1x16)
          Finset.univ (View.stores_vmem_bits_univ h_S1x16 rfl) (.inl rfl))
        >>= fun _ => Prog.ret 0#32)
      (fun _ => iprop(∃ f', ((sV).view.loc (thr d L) ↦{fullShare} f')
        ∗ ⌜∀ p : S8x96.Idx, f' p = if (p 0).val = t2.val ∧ 64 ≤ (p 1).val ∧ (p 1).val < 64 + 32
              then runMax (fun r => tAt T (idxOf g x y w h r) (p 1).val) c
            else if (p 0).val = t2.val ∧ 32 ≤ (p 1).val ∧ (p 1).val < 32 + 32
              then runMax (fun r => tAt T (idxOf g x y w h r) (p 1).val) c else f p⌝)) := by
  unfold wpT
  iintro Hs
  sl_exec
  sl_step
  iexists _
  isplitl [Hs]; · iexact Hs
  ipureintro
  intro p
  rw [res_write _ _ _ t2.val 80 (k1_off23_eq t2), res_write _ _ _ t2.val 64 (k1_off22_eq t2)]
  refine (two_stores g x y w h T c 4 _ t2.val p rfl rfl).trans ?_
  rw [res_write _ _ _ t2.val 48 (k1_off21_eq t2), res_write _ _ _ t2.val 32 (k1_off20_eq t2), two_stores g x y w h T c 2 _ t2.val p rfl rfl]
  rfl

set_option maxHeartbeats 1000000 in
theorem t2_trip (xq : PosShare TreeShare) (T : S200704x128.Idx → F .f32) (hR : InRange R) {fC : S512.Idx → BitVec 32} (hC : Held L R fC)
    (O : CellTallies nD τ sig (HIx 1)) (W : Waits sig (HIx 1)) (t2 : Fin k1_t2_loop.trips) (acc : BitVec 32) :
    PInv d L R xq T fC O W t2.val acc ⊢ wpT d L
      (k1_t2_body L xV (Memref.isWhole_whole _) rV (Memref.isWhole_whole _) oV (Memref.isWhole_whole _) cV (Memref.isWhole_whole _)
        lV (Memref.isWhole_whole _) wV (Memref.isWhole_whole _) sV (Memref.isWhole_whole _) cc1_scratch4 cc1_scoped0 cc1_scoped1
        (BitVec.ofNat 32 (wid L)) t2 acc)
      (PInv d L R xq T fC O W (t2.val + 1)) := by
  have ht : t2.val < 8 := lt_of_lt_of_eq t2.isLt (by decide : k1_t2_loop.trips = 8)
  have hwid := wid_lt L
  obtain ⟨n, hn⟩ : ∃ n, n = 8 * wid L + t2.val := ⟨_, rfl⟩
  have hn' : n < 256 := by omega
  obtain ⟨hx, hy, ⟨-, hw⟩, -, hh⟩ := hR n hn'
  unfold k1_t2_body
  dsimp only
  iintro ⟨#Hmw, Hc, HF, %f, Hs, %hf⟩
  icases (Entails.of_eq (Fetched.eq_def d L xq T O W)) $$ HF with ⟨Hl, Hw, Hx, Hsem, HO⟩
  iapply (seq d L (part3_wp d L R hR hC t2 n hn hn')) $$ Hc
  iintro %r ⟨Hc, %hr⟩
  subst hr
  dsimp only
  rw [part4_eq L hn' hw]
  iapply (part5_wp d L hw hh)
  iintro %hw1 %v136
  dsimp only
  iapply (seq d L (part6_wp d L (n / 64) _ _ _ _ hw1 xq T (by omega) hx hy hw hh v136)) $$ [Hl Hw Hx Hsem]
  · isplitl [Hl]; · iexact Hl
    isplitl [Hw]; · iexact Hw
    isplitl [Hx]; · iexact Hx
    iexact Hsem
  iintro %r HI
  iapply (seq d L (part7_wp d L (n / 64) _ _ _ _ hw1 xq T (by omega) hx hy hw hh O W f t2 (BitVec.ofNat 32 t2.val) r.1 r.2.1 r.2.2)) $$ [HI Hs HO]
  · isplitr; · iexact Hmw
    isplitl [HI]; · iexact HI
    isplitl [Hs]; · iexact Hs
    iexact HO
  iintro %r' ⟨%f', Hs, %hf', HF⟩
  obtain ⟨hf', v, rfl⟩ := hf'
  iapply (seq_end d L (tail_wp d L (n / 64) _ _ _ _ T _ f' t2)) $$ Hs
  iintro %a ⟨%f'', Hs, %hf''⟩
  isplitr; · iexact Hmw
  isplitl [Hc]; · iexact Hc
  isplitl [HF]; · iexact HF
  iexists f''
  isplitl [Hs]; · iexact Hs
  ipureintro
  intro p hp
  have hp1 : (p 1).val < 96 := (p 1).isLt
  have ho : (p 0).val = t2.val → outAt T R (8 * wid L + (p 0).val) (p 1).val
      = runMax (fun r => tAt T (idxOf (n / 64) (R (4 * n)) (R (4 * n + 1)) (R (4 * n + 2)) (R (4 * n + 3)) r) (p 1).val)
        (cntOf (R (4 * n + 2)) (R (4 * n + 3))) := fun e => by
    rw [e, ← hn]; rfl
  rw [hf'' p]
  split
  · next h => exact (ho h.1).symm
  · split
    · next h => exact (ho h.1).symm
    · rw [hf' p]
      split
      · next h => exact (ho h.1).symm
      · exact hf p (by omega)

end Cert.KernelIdeal.Pool
-- ==== Proof.IdealTask.lean ====
module

public import proofs.«01_k».proof.Proof.IdealTile

@[expose] public section

noncomputable section

namespace Cert.KernelIdeal.Pool

open Cert.KernelIdeal Cert.KernelIdeal.Gen Cert.KernelIdeal.Arith Cert.PoolWords

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] (d : Dev nD) (L : grid1.Coords)

/-! ## A tile's task -/

section Tile

variable (R : ℕ → ℕ) (tab : ℕ → ℕ → F .f32)

/-- A table whose first 96 lanes are the given ones. -/
def Good (T : S200704x128.Idx → F .f32) : Prop := ∀ (i : Fin 200704) (j : Fin 128), j.val < 96 → T (tix i j) = tab i.val j.val

/-- The pooled rows, from the table's first 96 lanes and the regions' numbers. -/
def outF (p : S256x96.Idx) : F .f32 := runMax (fun k => tab (rowOf R (p 0).val k) (p 1).val) (numOf R (p 0).val)

/-- The regions' numbers, each sixteen times over. -/
def numF (p : S16384.Idx) : BitVec 32 := BitVec.ofNat 32 (R ((p 0).val / 16))

theorem outAt_eq (hR : InRange R) {T : S200704x128.Idx → F .f32} (hT : Good tab T) (p : S256x96.Idx) :
    outAt T R (p 0).val (p 1).val = outF R tab p := by
  have h0 : (p 0).val < 256 := (p 0).isLt
  have h1 : (p 1).val < 96 := (p 1).isLt
  unfold outAt outF
  congr 1
  funext k
  have hr := rowOf_lt hR h0 k
  exact (dif_pos (⟨hr, by omega⟩ : _ ∧ _)).trans (hT ⟨_, hr⟩ ⟨_, by omega⟩ h1)

/-- The result rows of tile `t`. -/
def rowsOf (t : ℕ) : Finset S256x96.Idx := Finset.univ.filter fun p => (p 0).val / 8 = t

/-- The rows of the result a tile copies out to. -/
abbrev oS (L : grid1.Coords) : Memref sig .scVector .hbm S8x96 .f32 :=
  (oV).slice (Rect.unit (s := S256x96) (k1_off24 L) S8x96.size (k1_off24_inb L)) (fun _ => rfl)

theorem oS_emb (i : S8x96.Idx) : ((oS L).view.emb i 0).val = 8 * wid L + (i 0).val ∧ ((oS L).view.emb i 1).val = (i 1).val := by
  have ho := k1_off24_eq L
  have e0 : k1_off24 L 0 = 16 * (L 1).val + 8 * (L 0).val := congrFun ho 0
  have e1 : k1_off24 L 1 = 0 := congrFun ho 1
  constructor
  · show k1_off24 L 0 + 1 * (i 0).val = _
    rw [e0]; unfold wid; omega
  · show k1_off24 L 1 + 1 * (i 1).val = _
    rw [e1]; omega

theorem oS_set : (oS L).view.set = rowsOf (wid L) := by
  ext p
  have h0 : (p 0).val < 256 := (p 0).isLt
  simp only [View.set, Finset.mem_map, Finset.mem_univ, true_and, rowsOf, Finset.mem_filter]
  constructor
  · rintro ⟨i, rfl⟩
    have hi : (i 0).val < 8 := (i 0).isLt
    rw [(oS_emb L i).1]
    omega
  · intro hp
    refine ⟨fun | 0 => (⟨(p 0).val - 8 * wid L, by omega⟩ : Fin 8) | 1 => (p 1 : Fin 96), ?_⟩
    funext a
    apply Fin.ext
    match a with
    | 0 => rw [(oS_emb L _).1]; show 8 * wid L + ((p 0).val - 8 * wid L) = _; omega
    | 1 => rw [(oS_emb L _).2]

abbrev xLoc (d : Dev nD) : Loc nD τ sig := (SparseCore.T d).loc main_v5
abbrev rLoc (d : Dev nD) : Loc nD τ sig := (SparseCore.T d).loc main_v3
abbrev oLoc (d : Dev nD) : Loc nD τ sig := (SparseCore.T d).loc main_v6

/-- The read share of tile `t`. -/
def tileShare (t : Fin 32) : PosShare TreeShare := pieceOf fullShare 32 (by decide) t

/-- What a tile starts from: a share of the table, a share of the regions' numbers, its rows of the result. -/
def tileIn (d : Dev nD) (t : Fin 32) : sProp 𝕄 :=
  iprop((∃ T, ⌜Good tab T⌝ ∗ (xLoc d ↦{tileShare t} T)) ∗ (rLoc d ↦{tileShare t} numF R) ∗ ∃ f, oLoc d ↦[rowsOf t.val]{fullShare} f)

/-- What a tile ends with: its rows of the result, pooled. -/
def tileOut (d : Dev nD) (t : Fin 32) : sProp 𝕄 :=
  iprop(oLoc d ↦[rowsOf t.val]{fullShare} outF R tab)

instance (d : Dev nD) (t : Fin 32) : Storable (upEmb : UEmb _ 𝕄) (tileIn (F := F) R tab d t) := by
  unfold tileIn; infer_instance
instance (d : Dev nD) (t : Fin 32) : Storable (upEmb : UEmb _ 𝕄) (tileOut (F := F) R tab d t) := by
  unfold tileOut; infer_instance

abbrev cG (d : Dev nD) (L : grid1.Coords) : GSem nD τ sig := (thr d L, .dma cc1_scratch4.sem)
abbrev cA (d : Dev nD) (L : grid1.Coords) : GSem nD τ sig := (thr d L, .dma cc1_scoped0.sem)
abbrev cB (d : Dev nD) (L : grid1.Coords) : GSem nD τ sig := (thr d L, .dma cc1_scoped1.sem)

theorem ownSems0_V :
    (ownSems0 (thr d L) : sProp 𝕄)
      = iprop(semVal (cG d L) 0 ∗ semVal (cA d L) 0 ∗ semVal (cB d L) 0
          ∗ bigSep ((((ownCells (thr d L)).erase (cG d L)).erase (cA d L)).erase (cB d L)) fun g => semVal g 0) := by
  unfold SparseCore.Cfg.ownSems0
  rw [SparseCore.bigSep_erase' ((mem_ownCells (g := cG d L)).mpr ⟨rfl, by
      show (SemLoc.dma cc1_scratch4.sem : SemLoc sig).isScoped .scVector = true; decide⟩),
    SparseCore.bigSep_erase' (Finset.mem_erase.mpr ⟨by simp [cG, cA]; decide, (mem_ownCells (g := cA d L)).mpr ⟨rfl, by
      show (SemLoc.dma cc1_scoped0.sem : SemLoc sig).isScoped .scVector = true; decide⟩⟩),
    SparseCore.bigSep_erase' (Finset.mem_erase.mpr ⟨by simp [cA, cB]; decide, Finset.mem_erase.mpr ⟨by simp [cG, cB]; decide,
      (mem_ownCells (g := cB d L)).mpr ⟨rfl, by show (SemLoc.dma cc1_scoped1.sem : SemLoc sig).isScoped .scVector = true; decide⟩⟩⟩)]

abbrev bufRef (L : grid1.Coords) (b : Ref sig .scVector) : DevRef τ sig := (Proc.scVector (coreOf L) (subOf L)).devRef b

theorem bufRef_ne {b b' : Ref sig .scVector} (h : b ≠ b') : bufRef L b ≠ bufRef L b' := fun e => absurd (Proc.devRef_injective _ e) h

theorem ownBufs_V :
    (ownBufs (thr d L) : sProp 𝕄)
      = iprop((∃ f, (thr d L).loc cc1_scratch0 ↦{fullShare} f) ∗ (∃ f, (thr d L).loc cc1_scratch1 ↦{fullShare} f)
          ∗ (∃ f, (thr d L).loc cc1_scratch2 ↦{fullShare} f) ∗ (∃ f, (thr d L).loc cc1_scratch3 ↦{fullShare} f)
          ∗ bigSep (((((ownRefs (τ := τ) (.scVector (coreOf L) (subOf L))).erase (bufRef L cc1_scratch0)).erase (bufRef L cc1_scratch1)).erase
              (bufRef L cc1_scratch2)).erase (bufRef L cc1_scratch3))
              fun b => iprop(∃ f, ((d, b) : Loc nD τ sig) ↦{fullShare} f)) := by
  unfold SparseCore.Cfg.ownBufs
  have hm : ∀ b : Ref sig .scVector, (bufRef L b).owner = .proc (.scVector (coreOf L) (subOf L)) →
      bufRef L b ∈ ownRefs (τ := τ) (.scVector (coreOf L) (subOf L)) := fun b h => SparseCore.Cfg.mem_ownRefs_of_owner h
  rw [SparseCore.bigSep_erase' (hm cc1_scratch0 rfl),
    SparseCore.bigSep_erase' (Finset.mem_erase.mpr ⟨bufRef_ne L (by decide), hm cc1_scratch1 rfl⟩),
    SparseCore.bigSep_erase' (Finset.mem_erase.mpr ⟨bufRef_ne L (by decide), Finset.mem_erase.mpr ⟨bufRef_ne L (by decide), hm cc1_scratch2 rfl⟩⟩),
    SparseCore.bigSep_erase' (Finset.mem_erase.mpr ⟨bufRef_ne L (by decide), Finset.mem_erase.mpr ⟨bufRef_ne L (by decide),
      Finset.mem_erase.mpr ⟨bufRef_ne L (by decide), hm cc1_scratch3 rfl⟩⟩⟩)]

theorem pts_oS (f : Buf (Elt F) (oLoc d)) :
    ((oS L).view.loc (thr d L) ↦[(oS L).view.set]{fullShare} f : sProp 𝕄) = oLoc d ↦[rowsOf (wid L)]{fullShare} f := by
  rw [oS_set]

/-- What the first copy brings a tile. -/
theorem held_of (pay : S512.Idx → BitVec 32) (f0 : S512.Idx → BitVec 32)
    (hp : pay = ((rV).slice (Rect.unit (s := S16384) (k1_off1 L) S512.size (k1_off1_inb L)) (fun _ => rfl)).view.read (Elt F) (numF R)) :
    Held L R (View.write (Elt F) (cV).view f0 pay Finset.univ) := by
  subst hp
  have h := congrFun (k1_off1_eq L) 0
  have e0 : k1_off1 L 0 = 1024 * (L 1).val + 512 * (L 0).val := h
  intro p
  rw [View.write_whole_univ]
  refine ((View.read_apply _ _).trans (cast_eq _ _)).trans ?_
  show BitVec.ofNat 32 (R ((k1_off1 L 0 + 1 * (p 0).val) / 16)) = _
  rw [e0]
  congr 2
  unfold wid
  omega

/-- What the last copy leaves in the result. -/
theorem out_of (hR : InRange R) {T : S200704x128.Idx → F .f32} (hT : Good tab T) (fo : S256x96.Idx → F .f32) (fS : S8x96.Idx → F .f32)
    (hf : ∀ p : S8x96.Idx, fS p = outAt T R (8 * wid L + (p 0).val) (p 1).val) (pay : S8x96.Idx → F .f32) (hp : pay = (sV).view.read (Elt F) fS) :
    ((oS L).view.loc (thr d L) ↦[(oS L).view.set]{fullShare} ((oS L).view.writes (Elt F) fo [⟨Rect.whole S8x96, pay⟩]) : sProp 𝕄)
      ⊢ oLoc d ↦[rowsOf (wid L)]{fullShare} outF R tab := by
  subst hp
  rw [pts_oS]
  refine Entails.of_eq (pointsTo_congr fun p hp => ?_)
  rw [← oS_set] at hp
  obtain ⟨i, -, rfl⟩ := Finset.mem_map.mp hp
  rw [← outAt_eq R tab hR hT, (oS_emb L i).1, (oS_emb L i).2]
  refine (((View.read_apply _ _).trans (cast_eq _ _)).symm.trans (View.read_writes_cons_hit_of_coords (oS L).view fo (Rect.whole S8x96) _ [] i i
    fun a => ?_)).trans ?_
  · show (i a).val = 0 + 1 * (i a).val
    omega
  refine ((View.read_apply _ _).trans (cast_eq _ _)).trans ?_
  exact hf i

set_option maxHeartbeats 4000000 in
/-- A tile's task: its numbers fetched, the list cleared, its eight regions pooled, its rows copied out. -/
theorem tile_body (hR : InRange R) (hF : (K (F := F)).Facts) (O : CellTallies nD τ sig (HIx 1)) (W : Waits sig (HIx 1)) (hO : ∀ g, O g none = 0) :
    iprop(levAts (K (F := F)).L (K (F := F)).lev ∗ emp ∗ tileIn R tab d ⟨wid L, wid_lt L⟩
        ∗ scopedBufs (thr d L) ∗ scopedSems0 (thr d L) ∗ owes (thr d L) O W)
      ⊢ wp frame (wpE (defs₀ (F := F)) 𝒱₀ (thr d L) none) Set.univ
          (cc1__sc_pool_body L xV (Memref.isWhole_whole _) rV (Memref.isWhole_whole _) oV (Memref.isWhole_whole _) cV (Memref.isWhole_whole _)
            lV (Memref.isWhole_whole _) wV (Memref.isWhole_whole _) sV (Memref.isWhole_whole _) cc1_scratch4 cc1_scoped0 cc1_scoped1)
          fun _ => iprop(tileOut R tab d ⟨wid L, wid_lt L⟩ ∗ scopedBufs (thr d L) ∗ scopedSems0 (thr d L)
            ∗ ∃ W', ⌜∀ p ∈ W', p ∈ W ∨ p.2 = none⌝ ∗ owes (thr d L) O W') := by
  rw [cc1__sc_pool_body_eq_skeleton]; unfold cc1__sc_pool_body_skel
  rw [(K (F := F)).scopedBufs_V hF d (coreOf L) (subOf L), SparseCore.Cfg.scopedSems0_V (Val := Elt F) d (coreOf L) (subOf L), ownSems0_V, ownBufs_V]
  unfold tileIn tileOut
  iintro ⟨#Hlv, -, ⟨⟨%T, %hT, Hx⟩, Hr, %fo, Ho⟩, ⟨⟨%f0, Hc⟩, ⟨%f1, Hl⟩, ⟨%f2, Hw⟩, ⟨%f3, Hs⟩, Hbufs⟩, ⟨HsemG, HsemA, HsemB, Hsems⟩, HO⟩
  ihave Hmw0 := (show levAts (K (F := F)).L (K (F := F)).lev ⊢ Transfers.MayWaits (thr d L) (default : HIx 1) O from
    (K (F := F)).mayWaits_none (thr := thr d L) hO) $$ Hlv
  icases Hmw0 with #Hmw
  ihave Ho' := (Entails.of_eq (pts_oS (F := F) d L _).symm) $$ Ho
  ihave Hx' := (Entails.of_eq (show (xLoc d ↦{tileShare ⟨wid L, wid_lt L⟩} T : sProp 𝕄) = (xV).view.loc (thr d L) ↦{tileShare ⟨wid L, wid_lt L⟩} T from rfl)) $$ Hx
  ihave Hr' := (Entails.of_eq (show (rLoc d ↦{tileShare ⟨wid L, wid_lt L⟩} numF R : sProp 𝕄) = (rV).view.loc (thr d L) ↦{tileShare ⟨wid L, wid_lt L⟩} numF R from rfl)) $$ Hr
  ihave Hc' := (Entails.of_eq (show ((thr d L).loc cc1_scratch0 ↦{fullShare} f0 : sProp 𝕄) = (cV).view.loc (thr d L) ↦{fullShare} f0 from rfl)) $$ Hc
  ihave Hl' := (Entails.of_eq (show ((thr d L).loc cc1_scratch1 ↦{fullShare} f1 : sProp 𝕄) = (lV).view.loc (thr d L) ↦{fullShare} f1 from rfl)) $$ Hl
  ihave Hw' := (Entails.of_eq (show ((thr d L).loc cc1_scratch2 ↦{fullShare} f2 : sProp 𝕄) = (wV).view.loc (thr d L) ↦{fullShare} f2 from rfl)) $$ Hw
  ihave Hs' := (Entails.of_eq (show ((thr d L).loc cc1_scratch3 ↦{fullShare} f3 : sProp 𝕄) = (sV).view.loc (thr d L) ↦{fullShare} f3 from rfl)) $$ Hs
  sl_exec
  have hC : Held L R (View.write (Elt F) (cV).view f0 (tile_body.sl.dma0 L R) Finset.univ) := held_of L R _ f0 rfl
  iapply (loop_bind d L k1_t1_loop _ _ _ (ZInv (F := F) d L) (fun k acc => t1_trip d L k acc)) $$ [Hl']
  · iexists f1
    isplitl [Hl']; · iexact Hl'
    ipureintro
    exact fun p hp => absurd hp (by omega)
  iintro %acc ⟨%f4, Hl, %hf4⟩
  rw [show tile_body.sl.v1 L = BitVec.ofNat 32 (wid L) from wid_word L]
  iapply (loop_bind d L k1_t2_loop _ _ _ (PInv d L R (tileShare ⟨wid L, wid_lt L⟩) T _ O W)
    (fun k acc => t2_trip d L R (tileShare ⟨wid L, wid_lt L⟩) T hR hC O W k acc)) $$ [Hl Hw' Hx' Hs' Hc' HsemG HO]
  · isplitr; · iexact Hmw
    isplitl [Hc']; · iexact Hc'
    isplitl [Hl Hw' Hx' HsemG HO]
    · unfold Fetched
      isplitl [Hl]
      · iexists f4
        isplitl [Hl]; · iexact Hl
        ipureintro
        intro p
        have hp : (p 0).val < 224 := (p 0).isLt
        rw [hf4 p (by rw [show k1_t1_loop.trips = 14 from by decide]; omega)]
        decide
      isplitl [Hw']; · iexists _; iexact Hw'
      isplitl [Hx']; · iexact Hx'
      isplitl [HsemG]; · iexact HsemG
      iexists _
      isplitr
      swap; · iexact HO
      ipureintro; intro p hp
      rcases Finset.mem_insert.mp hp with hp | hp; · exact .inr (hp ▸ rfl)
      exact .inl hp
    iexists f3
    isplitl [Hs']; · iexact Hs'
    ipureintro
    exact fun p hp => absurd hp (by omega)
  iintro %acc' ⟨-, Hc, HF, %f5, Hs, %hf5⟩
  icases (Entails.of_eq (Fetched.eq_def d L (tileShare ⟨wid L, wid_lt L⟩) T O W)) $$ HF with ⟨⟨%f6, Hl, -⟩, ⟨%f7, Hw⟩, Hx, HsemG, %W', %hW', HO⟩
  unfold wpT
  sl_exec
  sl_step
  isplitl [Ho']
  · iapply (out_of d L R tab hR hT fo f5 (fun p => hf5 p (lt_of_lt_of_eq (p 0).isLt (by decide))) (tile_body.sl.dma0_1 d L f5) rfl) $$ Ho'
  isplitl [Hc Hl Hw Hs Hbufs]
  · isplitl [Hc]; · iexists _; iexact Hc
    isplitl [Hl]; · iexists _; iexact Hl
    isplitl [Hw]; · iexists _; iexact Hw
    isplitl [Hs]; · iexists _; iexact Hs
    iexact Hbufs
  isplitl [HsemG HsemA HsemB Hsems]
  · isplitl [HsemG]; · iexact HsemG
    isplitl [HsemA]; · iexact HsemA
    isplitl [HsemB]; · iexact HsemB
    iexact Hsems
  iexists _; isplitr
  swap; · iexact HO
  ipureintro; intro p hp
  rcases Finset.mem_insert.mp hp with hp | hp; · exact .inr (hp ▸ rfl)
  exact hW' p hp

end Tile

end Cert.KernelIdeal.Pool
-- ==== Proof.IdealRegion.lean ====
module

public import proofs.«01_k».proof.Proof.IdealTask
public import Idealize.ShloMosaic.Lib.Pipeline.ArrRel

@[expose] public section

noncomputable section

namespace Cert.KernelIdeal.Pool

open Cert.KernelIdeal Cert.KernelIdeal.Gen Cert.KernelIdeal.Arith Cert.PoolWords

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] (d : Dev nD) (L : grid1.Coords)

/-! ## The window pass: one point of the grid -/

section Body

variable (c : Dev nD)

/-- Lane `l` below 96 of a block of the table, as a lane of the block of maxima. -/
abbrev lane (j : S1x112x224x128.Idx) (h : (j 3).val < 96) : S1x112x224x96.Idx := fun
  | 0 => (j 0 : Fin 1) | 1 => (j 1 : Fin 112) | 2 => (j 2 : Fin 224) | 3 => ⟨(j 3).val, h⟩

/-- A block of the table whose first 96 lanes are the maxima of the two given blocks. -/
def Maxed (X0 : Vec F S1x112x96x224 .f32) (X1 : Vec F S1x8x96x224 .f32) (X : S1x112x224x128.Idx → F .f32) : Prop :=
  ∀ (j : S1x112x224x128.Idx) (h : (j 3).val < 96), X j = k0_pay1 X0 X1 (lane j h)

omit [FloatOps F] in
/-- A load of a whole block reads the block. -/
theorem load_all {S : Shape} (M : Memref sig .tc .vmem S .f32) (off : Fin S.rank → ℕ) (ho : ∀ a, off a = 0) (inb : ∀ a, off a + S.size a ≤ S.size a)
    (f : M.view.ty.Contents (Elt F)) :
    M.view.readAt (Elt F) (Rect.unit (s := S) off S.size inb).toLoadRect f = M.view.read (Elt F) f := by
  obtain rfl : off = fun _ => 0 := funext ho
  funext j
  rw [View.readAt_rect, View.read_apply, View.read_apply]
  have he : ((M.view.slice (Rect.unit (s := S) (fun _ => 0) S.size inb)).emb j) = M.view.emb j := by
    show M.view.emb ((Rect.unit (s := S) (fun _ => 0) S.size inb).emb j) = _
    congr 1
    funext a
    apply Fin.ext
    show 0 + 1 * (j a).val = _
    omega
  simp only [he]

theorem pool_body (i : grid0.Coords) (M0 : Memref sig .tc .vmem S1x112x96x224 .f32) (h0 : M0.IsWhole) (M1 : Memref sig .tc .vmem S1x8x96x224 .f32) (h1 : M1.IsWhole)
    (M2 : Memref sig .tc .vmem S1x112x224x128 .f32) (h2 : M2.IsWhole)
    (X0 : Vec F S1x112x96x224 .f32) (X1 : Vec F S1x8x96x224 .f32) (X2 : Vec F S1x112x224x128 .f32) (Q : PUnit.{1} → sProp 𝕄) :
    iprop(owns (c : Thread nD τ) M0 fullShare X0 ∗ owns (c : Thread nD τ) M1 fullShare X1 ∗ owns (c : Thread nD τ) M2 fullShare X2
        ∗ (∀ X, ⌜Maxed X0 X1 X⌝ -∗ owns (c : Thread nD τ) M0 fullShare X0 -∗ owns (c : Thread nD τ) M1 fullShare X1 -∗ owns (c : Thread nD τ) M2 fullShare X -∗ Q ⟨⟩))
      ⊢ wp frame (wpE (defs₀ (F := F)) 𝒱₀ (c : Thread nD τ) none) Set.univ (cc0__t88_body i M0 h0 M1 h1 M2 h2) Q := by
  rw [cc0__t88_body_eq_skeleton]
  unfold owns
  iintro ⟨⟨%f0, %e0, H0⟩, ⟨%f1, %e1, H1⟩, ⟨%f2, %e2, H2⟩, Hk⟩
  sl_exec!
  sl_step
  rw [load_all M0 _ (by decide), load_all M1 _ (by decide), e0, e1]
  iapply Hk $$ %(M2.view.read (Elt F) (M2.view.writes (Elt F) f2 [⟨Rect.unit ![0, 0, 0, 0] S1x112x224x96.size inb_S1x112x224x128_S1x112x224x96_0_0_0_0, k0_pay1 X0 X1⟩])) %_ [H0] [H1] [H2]
  · intro j h
    refine View.read_writes_cons_hit_of_coords _ _ _ _ _ _ _ ?_
    intro a
    match a with
    | 0 => show (j 0).val = 0 + 1 * (j 0).val; omega
    | 1 => show (j 1).val = 0 + 1 * (j 1).val; omega
    | 2 => show (j 2).val = 0 + 1 * (j 2).val; omega
    | 3 => show (j 3).val = 0 + 1 * (j 3).val; omega
  · iexists f0; isplitr; · ipureintro; exact e0
    iexact H0
  · iexists f1; isplitr; · ipureintro; exact e1
    iexact H1
  · iexists _; isplitr; swap; · iexact H2
    ipureintro; rfl

end Body

/-! ## The window pass over the grid -/

section Region

/-- The image, channels before columns: the entry at four numbers. -/
def imgAt (A : S4x224x96x224.Idx → F .f32) (g r ch cl : ℕ) : F .f32 :=
  A fun | 0 => Fin.ofNat 4 g | 1 => Fin.ofNat 224 r | 2 => Fin.ofNat 96 ch | 3 => Fin.ofNat 224 cl

/-- The block of rows a point of the grid reads. -/
def blkA (A : S4x224x96x224.Idx → F .f32) (g i : ℕ) : Vec F S1x112x96x224 .f32 :=
  fun j => imgAt A g (112 * i + (j 1).val) (j 2).val (j 3).val

/-- The eight rows after it (the last eight rows of the image, past its end). -/
def blkB (A : S4x224x96x224.Idx → F .f32) (g i : ℕ) : Vec F S1x8x96x224 .f32 :=
  fun j => imgAt A g (8 * min (14 * (i + 1)) 27 + (j 1).val) (j 2).val (j 3).val

/-- The window maxima the pass writes: image `g`, row `r`, column `cl`, channel `ch`. -/
def maxAt (A : S4x224x96x224.Idx → F .f32) (g r cl ch : ℕ) : F .f32 :=
  k0_pay1 (blkA A g (r / 112)) (blkB A g (r / 112)) fun | 0 => (0 : Fin 1) | 1 => Fin.ofNat 112 (r % 112) | 2 => Fin.ofNat 224 cl | 3 => Fin.ofNat 96 ch

/-- A table of window maxima, on its first 96 lanes. -/
def MaxTab (A : S4x224x96x224.Idx → F .f32) (G : S4x224x224x128.Idx → F .f32) : Prop :=
  ∀ i : S4x224x224x128.Idx, (i 3).val < 96 → G i = maxAt A (i 0).val (i 1).val (i 2).val (i 3).val

variable (A : S4x224x96x224.Idx → F .f32) (A4 : S4x224x224x128.Idx → F .f32) (c : Dev nD)

/-- The window pass's proof data: the image in two half shares, the table written whole. -/
def rdat : Pipeline.RDat τ (Elt F) (HIx 1) ℕ UU ℕ cfg0 c where
  A := fun | 0 => A | 1 => A | 2 => A4 | ⟨_ + 3, h⟩ => absurd h (Nat.not_lt.2 (Nat.le_add_left _ _))
  after := fun
    | 0 => fun _ Y X => X = Y
    | 1 => fun _ Y X => X = Y
    | 2 => fun t _ X => Maxed (((cfg0.win 0).blk t).view.read (Elt F) A) (((cfg0.win 1).blk t).view.read (Elt F) A) X
    | ⟨_ + 3, h⟩ => absurd h (Nat.not_lt.2 (Nat.le_add_left _ _))
  Φ _ := BI.emp
  q := fun | 0 => pieceOf fullShare 2 (by decide) 0 | 1 => pieceOf fullShare 2 (by decide) 1 | _ => fullShare
  owed _ := (K (F := F)).Otc c 0
  recorded _ := {p | (K (F := F)).lev ((c : Thread nD τ), p.1) p.2 ≤ 8 * (SparseCore.Cfg.Blocks.fst (Q := 1) (N := 1) 0)}

theorem body_obligation : (rdat A A4 c).BodyObligation (defs₀ (F := F)) 𝒱₀ none Set.univ := by
  intro t Y hY
  obtain ⟨d0, h0⟩ := ((rdat A A4 c).finds_of_fetch (fetch0_0 t) (Y 0)).1 (hY 0)
  obtain ⟨d1, h1⟩ := ((rdat A A4 c).finds_of_fetch (fetch0_1 t) (Y 1)).1 (hY 1)
  have e0 : Y 0 = ((cfg0.win 0).blk t).view.read (Elt F) A := h0
  have e1 : Y 1 = ((cfg0.win 1).blk t).view.read (Elt F) A := h1
  rw [bigSep_W0, bigSep_W0]
  refine BI.Entails.trans ?_ (pool_body c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (Y 0) (Y 1) (Y 2) _)
  show (_ : sProp 𝕄) ⊢ (_ : sProp 𝕄)
  iintro ⟨HΦ, HO, H0, H1, H2⟩
  isplitl [H0]; · iexact H0
  isplitl [H1]; · iexact H1
  isplitl [H2]; · iexact H2
  iintro %X %hX H0 H1 H2
  isplitl [HΦ]; · rw [show (rdat A A4 c).Φ t.succ = (rdat A A4 c).Φ t.castSucc from rfl]; iexact HΦ
  isplitl [HO]; · rw [show (rdat A A4 c).owesAt none t.succ = (rdat A A4 c).owesAt none t.castSucc from rfl]; iexact HO
  isplitl [H0]; · iexists (Y 0); isplitr; · ipureintro; rfl
                  iexact H0
  isplitl [H1]; · iexists (Y 1); isplitr; · ipureintro; rfl
                  iexact H1
  iexists X; isplitr; · ipureintro; rw [e0, e1] at hX; exact hX
  iexact H2

/-- Where the blocks of a point of the grid sit in their arrays. -/
theorem index0 : ∀ t : Fin grid0.N, ∀ a : Fin 4, win0_0.index t a = ![(grid0.coords t 0).val, (grid0.coords t 1).val, 0, 0] a := by decide +kernel
theorem index1 : ∀ t : Fin grid0.N, ∀ a : Fin 4, win0_1.index t a = ![(grid0.coords t 0).val, min (14 * ((grid0.coords t 1).val + 1)) 27, 0, 0] a := by decide +kernel
theorem index2 : ∀ t : Fin grid0.N, ∀ a : Fin 4, win0_2.index t a = ![(grid0.coords t 0).val, (grid0.coords t 1).val, 0, 0] a := by decide +kernel
theorem covers2 : (cfg0.win 2).Covers := by decide +kernel

omit [FloatOps F] in
theorem imgAt_ix (i : S4x224x96x224.Idx) {g r ch cl : ℕ} (h0 : (i 0).val = g) (h1 : (i 1).val = r) (h2 : (i 2).val = ch) (h3 : (i 3).val = cl) :
    A i = imgAt A g r ch cl := by
  subst h0 h1 h2 h3
  unfold imgAt
  congr 1
  funext a
  apply Fin.ext
  match a with
  | 0 => exact (Nat.mod_eq_of_lt (i 0).isLt).symm
  | 1 => exact (Nat.mod_eq_of_lt (i 1).isLt).symm
  | 2 => exact (Nat.mod_eq_of_lt (i 2).isLt).symm
  | 3 => exact (Nat.mod_eq_of_lt (i 3).isLt).symm

theorem read0 (t : Fin grid0.N) : ((cfg0.win 0).blk t).view.read (Elt F) A = blkA A (grid0.coords t 0).val (grid0.coords t 1).val := by
  funext j
  refine ((View.read_apply _ _).trans (cast_eq _ _)).trans ?_
  have hj : (j 0).val < 1 := (j 0).isLt
  refine imgAt_ix A _ ?_ ?_ ?_ ?_
  · refine (win0_0.rect_emb_val t j 0).trans ?_
    rw [index0 t 0]; show (grid0.coords t 0).val * 1 + (j 0).val = _; omega
  · refine (win0_0.rect_emb_val t j 1).trans ?_
    rw [index0 t 1]; show (grid0.coords t 1).val * 112 + (j 1).val = _; omega
  · refine (win0_0.rect_emb_val t j 2).trans ?_
    rw [index0 t 2]; show 0 * 96 + (j 2).val = _; omega
  · refine (win0_0.rect_emb_val t j 3).trans ?_
    rw [index0 t 3]; show 0 * 224 + (j 3).val = _; omega

theorem read1 (t : Fin grid0.N) : ((cfg0.win 1).blk t).view.read (Elt F) A = blkB A (grid0.coords t 0).val (grid0.coords t 1).val := by
  funext j
  refine ((View.read_apply _ _).trans (cast_eq _ _)).trans ?_
  have hj : (j 0).val < 1 := (j 0).isLt
  refine imgAt_ix A _ ?_ ?_ ?_ ?_
  · refine (win0_1.rect_emb_val t j 0).trans ?_
    rw [index1 t 0]; show (grid0.coords t 0).val * 1 + (j 0).val = _; omega
  · refine (win0_1.rect_emb_val t j 1).trans ?_
    rw [index1 t 1]; show min (14 * ((grid0.coords t 1).val + 1)) 27 * 8 + (j 1).val = _; omega
  · refine (win0_1.rect_emb_val t j 2).trans ?_
    rw [index1 t 2]; show 0 * 96 + (j 2).val = _; omega
  · refine (win0_1.rect_emb_val t j 3).trans ?_
    rw [index1 t 3]; show 0 * 224 + (j 3).val = _; omega

theorem arr_max [∀ e, Nonempty (Elt F e)] {G : S4x224x224x128.Idx → F .f32} (hG : (rdat A A4 c).ArrAt 2 cfg0.N G) : MaxTab A G := by
  obtain ⟨X, hX, hA⟩ := hG.exists_exact
  have e := hA (Function.update (fun _ _ _ => Classical.arbitrary _) 2 X) fun u _ _ => by rw [Function.update_self]
  rw [e]
  intro i
  refine ((rdat A A4 c).withAfter _).arrAt_forall_of_covers 2 (fun (i : S4x224x224x128.Idx) (v : F .f32) => (i 3).val < 96 → v = maxAt A (i 0).val (i 1).val (i 2).val (i 3).val) covers2 (fun t hf y => ?_) i
  intro h3
  obtain ⟨Y, -, hL⟩ := hX t t.isLt hf
  have hL' : Maxed (((cfg0.win 0).blk t).view.read (Elt F) A) (((cfg0.win 1).blk t).view.read (Elt F) A) (X t) := hL
  rw [read0, read1] at hL'
  have y0 : (y 0).val < 1 := (y 0).isLt
  have y1 : (y 1).val < 112 := (y 1).isLt
  have e0 := (win0_2.rect_emb_val t y 0).trans (congrArg (· * 1 + (y 0).val) (index2 t 0))
  have e1 := (win0_2.rect_emb_val t y 1).trans (congrArg (· * 112 + (y 1).val) (index2 t 1))
  have e2 := (win0_2.rect_emb_val t y 2).trans (congrArg (· * 224 + (y 2).val) (index2 t 2))
  have e3 := (win0_2.rect_emb_val t y 3).trans (congrArg (· * 128 + (y 3).val) (index2 t 3))
  have h3' : (y 3).val < 96 := by
    have e : (((cfg0.win 2).blk t).view.emb y 3).val = 0 * 128 + (y 3).val := e3
    have h : 0 * 128 + (y 3).val < 96 := e ▸ h3
    omega
  refine ((cast_eq _ _).trans ?_).trans ((hL' y h3').trans ?_)
  · rw [Pipeline.RDat.withAfter_after, Function.update_self]
  · have g0 : (((cfg0.win 2).blk t).view.emb y 0).val = (grid0.coords t 0).val := e0.trans (by rw [show (y 0).val = 0 by omega]; first | done | exact (Nat.add_zero _).trans (Nat.mul_one _))
    have g1 : (((cfg0.win 2).blk t).view.emb y 1).val = (grid0.coords t 1).val * 112 + (y 1).val := e1
    have g2 : (((cfg0.win 2).blk t).view.emb y 2).val = (y 2).val := e2.trans (by show 0 * 224 + (y 2).val = _; omega)
    have g3 : (((cfg0.win 2).blk t).view.emb y 3).val = (y 3).val := e3.trans (by show 0 * 128 + (y 3).val = _; omega)
    simp only [g0, g1, g2, g3]
    unfold maxAt
    have q1 : ∀ a b : ℕ, b < 112 → (a * 112 + b) / 112 = a ∧ (a * 112 + b) % 112 = b := fun a b hb => by omega
    rw [(q1 _ _ y1).1, (q1 _ _ y1).2]
    congr 1
    funext a
    apply Fin.ext
    match a with
    | 0 => show (y 0).val = 0; omega
    | 1 => exact (Nat.mod_eq_of_lt y1).symm
    | 2 => exact (Nat.mod_eq_of_lt (y 2).isLt).symm
    | 3 => exact (Nat.mod_eq_of_lt h3').symm

/-- The proof data of every pipeline: there is the one. -/
abbrev rdats : (p : Fin 1) → (c : Dev nD) → Pipeline.RDat τ (Elt F) (HIx 1) ℕ UU ℕ (Pipeline.pin (pcfgs (F := F)) (fun q => (cfgs q).toPCfg_adm) p) c
  | ⟨0, _⟩ => fun c => rdat A A4 c

/-- What the TensorCore owes before the launch's call is nowhere at a kernel's own waits. -/
theorem Otc_none (n : ℕ) (g : GSem nD τ sig) : (K (F := F)).Otc (N := 1) c n g none = 0 := by
  unfold SparseCore.Cfg.Otc
  rw [Finset.sum_apply, Finset.sum_apply']
  refine Finset.sum_eq_zero fun q _ => ?_
  split
  · rw [Finset.sum_apply, Finset.sum_apply']
    refine Finset.sum_eq_zero fun k _ => ?_
    rw [tallyAt_apply]; exact if_neg fun h => nomatch h.2
  · rfl

theorem hwaits : (levAts (K (F := F)).L (K (F := F)).lev : sProp 𝕄) ⊢ Pipeline.RDat.cellsWaits (Pipeline.pin (pcfgs (F := F)) (fun q => (cfgs q).toPCfg_adm)) (rdats A A4) none 0 c := by
  refine Pipeline.RDat.cellsWaits_intro _ (rdats A A4) none 0 c fun w s t => ?_
  exact (K (F := F)).mayWait_none _ fun g => Otc_none c 0 g

/-- What the TensorCore still owes, and what it has recorded, around the window pass. -/
abbrev owedTc (c : Dev nD) : sProp 𝕄 :=
  iprop(∃ W, ⌜(K (F := F)).WBelow (c : Thread nD τ) W (8 * (SparseCore.Cfg.Blocks.fst (Q := 1) (N := 1) 0))⌝ ∗ owes (c : Thread nD τ) ((K (F := F)).Otc (N := 1) c 0) W)

abbrev v0Loc (c : Dev nD) : Loc nD τ sig := (SparseCore.T c : Thread nD τ).loc main_v0
abbrev v4Loc (c : Dev nD) : Loc nD τ sig := (SparseCore.T c : Thread nD τ).loc main_v4

/-- The image in two halves, one per window that reads it. -/
theorem halves (c : Dev nD) (A : S4x224x96x224.Idx → F .f32) :
    (v0Loc c ↦[Finset.univ]{fullShare} A : sProp 𝕄) = iprop((v0Loc c ↦[Finset.univ]{pieceOf fullShare 2 (by decide) 0} A) ∗ (v0Loc c ↦[Finset.univ]{pieceOf fullShare 2 (by decide) 1} A)) := by
  rw [pointsTo_piecesOf (Ix := HIx 1) (Name := ℕ) (U := UU) (Lvl := ℕ) (Val := Elt F) (ℓ := v0Loc c) Finset.univ A (o := 2) (by decide) fullShare]
  exact BI.bigSep_fin_two _

/-- The window pass's arrays, one by one. -/
theorem arrays_eq (B : (w : Fin cfg0.W) → Buf (Elt F) ((cfg0.win w).arr.view.loc (c.tc : Thread nD τ))) :
    (rdat A A4 c).arrays B = iprop((v0Loc c ↦[Finset.univ]{pieceOf fullShare 2 (by decide) 0} B 0) ∗ (v0Loc c ↦[Finset.univ]{pieceOf fullShare 2 (by decide) 1} B 1) ∗ (v4Loc c ↦[Finset.univ]{fullShare} B 2)) := by
  unfold Pipeline.RDat.arrays
  rw [bigSep_W0, (arr_whole0 0).set_eq_univ, (arr_whole0 2).set_eq_univ]
  rfl

/-- The table's buffer once every block is written. -/
theorem arraysAt_out : (rdat A A4 c).arraysAt cfg0.N ⊢ (iprop(∃ G : Buf (Elt F) (v4Loc c), ⌜(rdat A A4 c).ArrAt 2 cfg0.N G⌝ ∗ v4Loc c ↦[Finset.univ]{fullShare} G) : sProp 𝕄) := by
  unfold Pipeline.RDat.arraysAt
  rw [bigSep_W0, (arr_whole0 2).set_eq_univ]
  show (_ : sProp 𝕄) ⊢ _
  iintro ⟨-, -, %G, %hG, HG⟩
  iexists G
  isplitr; · ipureintro; exact hG
  iexact HG

set_option backward.isDefEq.respectTransparency.types false in
/-- The window pass as a step of the program: it takes the image and the table's buffer, and leaves the table of window
    maxima. -/
def reg [∀ e, Nonempty (Elt F e)] : Pipeline.RDat.RegionSeg (pcfgs (F := F)) (fun q => (cfgs q).toPCfg_adm) (rdats A A4) none (defs₀ (F := F)) 𝒱₀ (K (F := F)).L (K (F := F)).lev 0 where
  win := winFacts₀0
  block_pos := block_pos0
  stage_whole := stage_whole0
  K := PEmpty
  osem k := k.elim
  ho := Pipeline.OwnSemFacts.none _
  hbody c := body_obligation A A4 c
  hwaits c := hwaits A A4 c
  pre c := iprop((v0Loc c ↦[Finset.univ]{fullShare} A) ∗ (v4Loc c ↦[Finset.univ]{fullShare} A4) ∗ owedTc (F := F) c)
  post c := iprop((∃ G, ⌜MaxTab A G⌝ ∗ v4Loc c ↦[Finset.univ]{fullShare} G) ∗ owedTc (F := F) c)
  X _ := BI.emp
  Y _ := BI.emp
  Z _ := BI.emp
  hentry c := by
    rw [Pipeline.ownSems0_none]
    iintro ⟨⟨HA, H4, %W, %hW, HO⟩, -, -⟩
    ihave HA := (Entails.of_eq (halves c A)) $$ HA
    icases HA with ⟨Ha, Hb⟩
    imodintro
    isplitl [Ha Hb H4]
    · iapply (Entails.of_eq (arrays_eq A A4 c _).symm)
      isplitl [Ha]; · iexact Ha
      isplitl [Hb]; · iexact Hb
      iexact H4
    isplitr; · unfold Pipeline.prefHeld; rw [show (Finset.univ : Finset (Fin 0)) = ∅ from rfl, BI.bigSep_empty]; iempintro
    isplitl [HO]
    · unfold Pipeline.RDat.owesAt Pipeline.owesWithin
      iexists W; isplitr
      · ipureintro; exact fun p hp => Or.inl (hW p hp)
      iexact HO
    isplitr; · iempintro
    iempintro
  hin c := by
    show (_ : sProp 𝕄) ⊢ BI.emp
    iintro -
    iempintro
  hout c := by
    rw [Pipeline.ownSems0_none]
    show (BI.emp : sProp 𝕄) ⊢ _
    iintro -
    isplitr; · iempintro
    isplitr; · iempintro
    iapply (Entails.of_eq (scopedRest0_eq (Val := Elt F) c).symm)
    iempintro
  hexit c := by
    iintro ⟨HG, ⟨%W, %hW, HO⟩, -, -⟩
    ihave HG := (arraysAt_out A A4 c) $$ HG
    icases HG with ⟨%G, %hG, HG⟩
    imodintro
    isplitl [HG]
    · iexists G
      isplitr; · ipureintro; exact arr_max A A4 c hG
      iexact HG
    iexists W
    isplitr
    · ipureintro
      intro p hp
      rcases hW hp with h | h
      · exact h
      · obtain ⟨w, k, rfl⟩ := h
        exact le_of_eq_of_le ((K (F := F)).lev_none _) (Nat.zero_le _)
    iexact HO

end Region

end Cert.KernelIdeal.Pool
-- ==== Proof.IdealDeal.lean ====
module

public import proofs.«01_k».proof.Proof.IdealRegion

@[expose] public section

noncomputable section

namespace Cert.KernelIdeal.Pool

open Cert.KernelIdeal Cert.KernelIdeal.Gen Cert.KernelIdeal.Arith Cert.PoolWords

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-! ## What the launch deals the tiles -/

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

def coordsV (c : Fin (grid1.bound 0)) (s : Fin (grid1.bound 1)) : grid1.Coords :=
  fun | 0 => c | 1 => s | ⟨_ + 2, h⟩ => absurd h (Nat.not_lt.2 (Nat.le_add_left _ _))

theorem nCore_zero : (K (F := F)).nCore 0 = 2 := rfl
theorem nSub_zero : (K (F := F)).nSub 0 = 16 := rfl

/-- The number of the tile on SparseCore `c`, subcore `i`. -/
def tileOf (c : Fin ((K (F := F)).nCore 0)) (i : Fin ((K (F := F)).nSub 0)) : Fin 32 := ⟨2 * i.val + c.val, by
  have h1 : c.val < 2 := c.isLt
  have h2 : i.val < 16 := i.isLt
  omega⟩

variable (R : ℕ → ℕ) (tab : ℕ → ℕ → F .f32)

/-- The one call's payloads: each task starts from its share of the inputs and its rows, and ends with its rows pooled. -/
def P : (K (F := F)).Pay (nD := nD) (Val := Elt F) (Name := ℕ) (U := UU) where
  st := fun q d c => match q with | 0 => bigSep Finset.univ fun i : Fin ((K (F := F)).nSub 0) => tileIn R tab d (tileOf (F := F) c i)
  dn := fun q d c => match q with | 0 => bigSep Finset.univ fun i : Fin ((K (F := F)).nSub 0) => tileOut R tab d (tileOf (F := F) c i)
  go := fun q d c i => match q with | 0 => tileIn R tab d (tileOf (F := F) c i)
  td := fun q d c i => match q with | 0 => tileOut R tab d (tileOf (F := F) c i)
  x := fun _ _ => iprop(emp)

instance P_storable : (P (F := F) R tab).IsStorable where
  st q d c := match q with
    | 0 => (inferInstance : BI.Storable (upEmb : UEmb _ 𝕄) (bigSep Finset.univ fun i : Fin ((K (F := F)).nSub 0) => tileIn R tab d (tileOf (F := F) c i)))
  dn q d c := match q with
    | 0 => (inferInstance : BI.Storable (upEmb : UEmb _ 𝕄) (bigSep Finset.univ fun i : Fin ((K (F := F)).nSub 0) => tileOut R tab d (tileOf (F := F) c i)))
  go q d c i := match q with
    | 0 => (inferInstance : BI.Storable (upEmb : UEmb _ 𝕄) (tileIn R tab d (tileOf (F := F) c i)))
  td q d c i := match q with
    | 0 => (inferInstance : BI.Storable (upEmb : UEmb _ 𝕄) (tileOut R tab d (tileOf (F := F) c i)))

theorem defs₀_vector (c : Fin τ.nSC) (s : Fin τ.nSub) :
    defs₀ (F := F) (.scVector c s) 1 ()
      = SparseCore.onTile hcore1 hsub1 (fun c s => cc1__sc_pool_body (coordsV c s)
          xV (Memref.isWhole_whole _) rV (Memref.isWhole_whole _) oV (Memref.isWhole_whole _)
          cV (Memref.isWhole_whole _) lV (Memref.isWhole_whole _) wV (Memref.isWhole_whole _) sV (Memref.isWhole_whole _)
          cc1_scratch4 cc1_scoped0 cc1_scoped1) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hR : InRange R) : (K (F := F)).TileObl (D (F := F)) 𝒱 (P R tab) v₀ 0 := by
  intro d c i O W hO _ _
  simp only [show (P (F := F) R tab).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) R tab hR facts O W hO).trans (wp_mono frame _ _ fun _ => obl_post)

theorem vecSplit : (K (F := F)).VecSplit' (P R tab) 0 := by
  intro d c
  show (bigSep Finset.univ fun i : Fin ((K (F := F)).nSub 0) => tileIn R tab d (tileOf (F := F) c i)) ⊢ |={Set.univ}=> iprop(
      (bigSep Finset.univ fun i : Fin ((K (F := F)).nSub 0) => tileIn R tab d (tileOf (F := F) c i))
      ∗ ((bigSep Finset.univ fun i : Fin ((K (F := F)).nSub 0) => tileOut R tab d (tileOf (F := F) c i))
          -∗ (bigSep Finset.univ fun i : Fin ((K (F := F)).nSub 0) => tileOut R tab d (tileOf (F := F) c i))))
  iintro H
  imodintro
  isplitl [H]; · iexact H
  iintro H
  iexact H

/-! ## The launch element of the ghost state -/

abbrev EP : Emb UP (MT nD τ sig (HIx 1) (Elt F) ℕ UU ℕ) :=
  (Emb.inl : Emb UP (UP × Counters)).trans (embR : Emb (UP × Counters) (MT nD τ sig (HIx 1) (Elt F) ℕ UU ℕ))

/-- The configurations of the pipelines, their tables pinned. -/
abbrev pins : (p : Fin 1) → Pipeline.Cfg sig Λ₀ := Pipeline.pin (pcfgs (F := F)) (fun q => (cfgs q).toPCfg_adm)

def u₀ : UU := (initOf (K (F := F)).hsCells (K (F := F)).hsToks, (initOf (Pipeline.cells (pins (F := F)) cellOf_inj) (Pipeline.launchToks (pins (F := F)) cellOf_inj), 1))

/-- What the window pass needs of the ghost state. -/
def G (d : Dev nD) : sProp 𝕄 := iprop(Pipeline.cellsGhost (pins (F := F)) EP 0 d ∗ Pipeline.toksInit (pins (F := F)) EP 0 d)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P R tab).x q thr) := by
  unfold u₀
  iintro Hu
  ihave H := (ownU_pair (initOf (K (F := F)).hsCells (K (F := F)).hsToks) ((initOf (Pipeline.cells (pins (F := F)) cellOf_inj) (Pipeline.launchToks (pins (F := F)) cellOf_inj), (1 : Counters)))) $$ Hu
  icases H with ⟨HH, HP⟩
  ihave HP := (own_pair_emb embR (initOf (Pipeline.cells (pins (F := F)) cellOf_inj) (Pipeline.launchToks (pins (F := F)) cellOf_inj)) (1 : Counters)) $$ HP
  icases HP with ⟨HP, -⟩
  imod (Pipeline.fund_ghost (pins (F := F)) EP cellOf_inj) $$ HP with ⟨Hg, Ht⟩
  imodintro
  isplitl [HH]; · iexact HH
  isplitl [Hg Ht]
  · rw [show (bigSep Finset.univ fun d : Dev nD => G (F := F) d) = iprop((bigSep Finset.univ fun d : Dev nD => bigSep Finset.univ fun p => Pipeline.cellsGhost (pins (F := F)) EP p d)
        ∗ bigSep Finset.univ fun d : Dev nD => bigSep Finset.univ fun p => Pipeline.toksInit (pins (F := F)) EP p d) from by
      rw [← bigSep_sep']
      exact bigSep_congr fun d _ => by
        rw [bigSep_univ_of_subsingleton (0 : Fin 1), bigSep_univ_of_subsingleton (0 : Fin 1)]; rfl]
    isplitl [Hg] <;> iassumption
  rw [show (bigSep Finset.univ fun thr : Thread nD τ => bigSep Finset.univ fun q : Fin 1 => (P (F := F) R tab).x q thr) = bigSep Finset.univ fun _ => iprop(emp) from
    bigSep_congr fun _ _ => bigSep_univ_of_subsingleton (0 : Fin 1), bigSep_emp']
  iempintro

end Cert.KernelIdeal.Pool
-- ==== Proof.IdealMain.lean ====
module

public import proofs.«01_k».proof.Proof.IdealDeal

@[expose] public section

noncomputable section

namespace Cert.KernelIdeal.Pool

open Cert.KernelIdeal Cert.KernelIdeal.Gen Cert.KernelIdeal.Arith Cert.PoolWords

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-! ## The inputs shared out to the tiles, the result put together -/

section Shares

variable (R : ℕ → ℕ) (tab : ℕ → ℕ → F .f32) (d : Dev nD)

/-- The tiles by SparseCore and subcore, or by number. -/
def tileEquiv : Fin ((K (F := F)).nCore 0) × Fin ((K (F := F)).nSub 0) ≃ Fin 32 where
  toFun p := tileOf (F := F) p.1 p.2
  invFun t := (⟨t.val % 2, Nat.mod_lt _ (by decide)⟩, ⟨t.val / 2, show t.val / 2 < 16 by omega⟩)
  left_inv p := by
    have h1 : p.1.val < 2 := p.1.isLt
    have h2 : p.2.val < 16 := p.2.isLt
    refine Prod.ext (Fin.ext ?_) (Fin.ext ?_)
    · show (2 * p.2.val + p.1.val) % 2 = p.1.val; omega
    · show (2 * p.2.val + p.1.val) / 2 = p.2.val; omega
  right_inv t := Fin.ext (show 2 * (t.val / 2) + t.val % 2 = t.val by omega)

theorem tiles_eq (Φ : Fin 32 → sProp 𝕄) :
    (bigSep Finset.univ fun c : Fin ((K (F := F)).nCore 0) => bigSep Finset.univ fun i : Fin ((K (F := F)).nSub 0) => Φ (tileOf (F := F) c i)) = bigSep Finset.univ Φ := by
  rw [BI.bigSep_univ_equiv (tileEquiv (F := F)) Φ, BI.bigSep_univ_prod]
  rfl

theorem rows_disjoint : ∀ t ∈ (Finset.univ : Finset (Fin 32)), ∀ t' ∈ (Finset.univ : Finset (Fin 32)), t ≠ t' → Disjoint (rowsOf t.val) (rowsOf t'.val) :=
  fun t _ t' _ h => Finset.disjoint_left.2 fun p hp hp' =>
    h (Fin.ext ((Finset.mem_filter.1 hp).2.symm.trans (Finset.mem_filter.1 hp').2))

theorem rows_cover : (Finset.univ : Finset (Fin 32)).biUnion (fun t => rowsOf t.val) = Finset.univ :=
  Finset.eq_univ_iff_forall.2 fun p => Finset.mem_biUnion.2
    ⟨⟨(p 0).val / 8, by have h : (p 0).val < 256 := (p 0).isLt; omega⟩, Finset.mem_univ _, Finset.mem_filter.2 ⟨Finset.mem_univ _, rfl⟩⟩

theorem result_rows (f : Buf (Elt F) (oLoc d)) :
    (oLoc d ↦[Finset.univ]{fullShare} f : sProp 𝕄) = bigSep Finset.univ fun t : Fin 32 => oLoc d ↦[rowsOf t.val]{fullShare} f := by
  refine Eq.trans (congrArg (fun I => (oLoc d ↦[I]{fullShare} f : sProp 𝕄)) rows_cover.symm) ?_
  exact pointsTo_biUnion (ℓ := oLoc d) Finset.univ (fun t : Fin 32 => rowsOf t.val) rows_disjoint

theorem st0_intro {T : S200704x128.Idx → F .f32} (hT : Good tab T) (f : Buf (Elt F) (oLoc d)) :
    iprop((xLoc d ↦[Finset.univ]{fullShare} T) ∗ (rLoc d ↦[Finset.univ]{fullShare} numF R) ∗ oLoc d ↦[Finset.univ]{fullShare} f)
      ⊢ (bigSep Finset.univ fun c : Fin ((K (F := F)).nCore 0) => (P R tab).st 0 d c : sProp 𝕄) := by
  show _ ⊢ (bigSep Finset.univ fun c : Fin ((K (F := F)).nCore 0) => bigSep Finset.univ fun i : Fin ((K (F := F)).nSub 0) => tileIn R tab d (tileOf (F := F) c i))
  rw [tiles_eq (fun t => tileIn R tab d t), result_rows,
    pointsTo_piecesOf (Ix := HIx 1) (Name := ℕ) (U := UU) (Lvl := ℕ) (Val := Elt F) (ℓ := xLoc d) Finset.univ T (o := 32) (by decide) fullShare,
    pointsTo_piecesOf (Ix := HIx 1) (Name := ℕ) (U := UU) (Lvl := ℕ) (Val := Elt F) (ℓ := rLoc d) Finset.univ (numF R) (o := 32) (by decide) fullShare,
    ← bigSep_sep', ← bigSep_sep']
  refine bigSep_mono fun t _ => ?_
  unfold tileIn tileShare
  show (_ : sProp 𝕄) ⊢ (_ : sProp 𝕄)
  iintro ⟨Hx, Hr, Ho⟩
  isplitl [Hx]
  · iexists T; isplitr; · ipureintro; exact hT
    iexact Hx
  isplitl [Hr]; · iexact Hr
  iexists f; iexact Ho

theorem dn0_elim :
    (bigSep Finset.univ fun c : Fin ((K (F := F)).nCore 0) => (P R tab).dn 0 d c : sProp 𝕄) ⊢ oLoc d ↦[Finset.univ]{fullShare} outF R tab := by
  show (bigSep Finset.univ fun c : Fin ((K (F := F)).nCore 0) => bigSep Finset.univ fun i : Fin ((K (F := F)).nSub 0) => tileOut R tab d (tileOf (F := F) c i)) ⊢ _
  rw [tiles_eq (fun t => tileOut R tab d t), result_rows]
  exact Entails.of_eq rfl

end Shares

/-! ## The values of the program, from the launch memory -/

section Values

variable (m : (ℓ : Loc nD τ sig) → Buf (Elt F) ℓ) (d : Dev nD)

abbrev fLoc (d : Dev nD) : Loc nD τ sig := (SparseCore.T d : Thread nD τ).loc main_arg0
abbrev bLoc (d : Dev nD) : Loc nD τ sig := (SparseCore.T d : Thread nD τ).loc main_arg1
abbrev yLoc (d : Dev nD) : Loc nD τ sig := (SparseCore.T d : Thread nD τ).loc main_v7

/-- Number `n` of the regions' table. -/
def numAt (rois : S4x64x4.Idx → BitVec 32) (n : ℕ) : ℕ :=
  (rois fun | 0 => Fin.ofNat 4 (n / 256) | 1 => Fin.ofNat 64 (n / 4 % 64) | 2 => Fin.ofNat 4 (n % 4)).toNat

/-- The image with its channels before its columns. -/
abbrev imgT (img : S4x224x224x96.Idx → F .f32) : S4x224x96x224.Idx → F .f32 :=
  transpose S4x224x96x224 [0, 1, 3, 2] img transposes_S4x224x224x96_S4x224x96x224_0_1_3_2

/-- The window maximum in row `n`, lane `c` of the table. -/
def tabAt (img : S4x224x224x96.Idx → F .f32) (n c : ℕ) : F .f32 := maxAt (imgT img) (n / 50176) (n % 50176 / 224) (n % 224) c

/-- The result: the pooled rows of the regions. -/
def outOf (img : S4x224x224x96.Idx → F .f32) (rois : S4x64x4.Idx → BitVec 32) : S4x64x96.Idx → F .f32 :=
  shapeCast S4x64x96 (outF (numAt rois) (tabAt img)) shapeCasts_S256x96_S4x64x96

theorem num_eq (rois : S4x64x4.Idx → BitVec 32) :
    shapeCast S16384 (broadcastInDim S1024x16 ![0] bcast_S1024_S1024x16_0 (shapeCast S1024 rois shapeCasts_S4x64x4_S1024)) shapeCasts_S1024x16_S16384
      = numF (numAt rois) := by
  funext p
  have hp : (p 0).val < 16384 := (p 0).isLt
  refine (shapeCast_apply _ _ p (show S1024x16.Idx from fun | 0 => (⟨(p 0).val / 16, by omega⟩ : Fin 1024) | 1 => (⟨(p 0).val % 16, by omega⟩ : Fin 16)) ?_).trans ?_
  · rw [Shape.rowMajor_val_two, Shape.rowMajor_val_one]
    show (p 0).val / 16 * 16 + (p 0).val % 16 = _
    omega
  refine (broadcastInDim_apply _ _ _ _ (show S1024.Idx from fun | 0 => (⟨(p 0).val / 16, by omega⟩ : Fin 1024)) fun | 0 => rfl).trans ?_
  refine (shapeCast_apply _ _ _ (show S4x64x4.Idx from fun | 0 => Fin.ofNat 4 ((p 0).val / 16 / 256) | 1 => Fin.ofNat 64 ((p 0).val / 16 / 4 % 64) | 2 => Fin.ofNat 4 ((p 0).val / 16 % 4)) ?_).trans ?_
  · rw [Shape.rowMajor_val_three, Shape.rowMajor_val_one]
    show ((p 0).val / 16 / 256 % 4 * 64 + (p 0).val / 16 / 4 % 64 % 64) * 4 + (p 0).val / 16 % 4 % 4 = (p 0).val / 16
    omega
  · show _ = BitVec.ofNat 32 (BitVec.toNat _)
    rw [BitVec.ofNat_toNat, BitVec.setWidth_eq]

theorem good_tab (img : S4x224x224x96.Idx → F .f32) {G : S4x224x224x128.Idx → F .f32} (hG : MaxTab (imgT img) G) :
    Good (tabAt img) (shapeCast S200704x128 G shapeCasts_S4x224x224x128_S200704x128) := by
  intro i j hj
  have hi : i.val < 200704 := i.isLt
  refine (shapeCast_apply _ _ _ (show S4x224x224x128.Idx from fun | 0 => (⟨i.val / 50176, by omega⟩ : Fin 4) | 1 => (⟨i.val % 50176 / 224, by omega⟩ : Fin 224) | 2 => (⟨i.val % 224, by omega⟩ : Fin 224) | 3 => (j : Fin 128)) ?_).trans (hG _ hj)
  rw [Shape.rowMajor_val_four, Shape.rowMajor_val_two]
  show ((i.val / 50176 * 224 + i.val % 50176 / 224) * 224 + i.val % 224) * 128 + j.val = i.val * 128 + j.val
  omega

end Values

/-! ## The program on the TensorCore -/

section Main

variable (m : (ℓ : Loc nD τ sig) → Buf (Elt F) ℓ) (ρ : Dev nD → PrngReg) (d : Dev nD)

abbrev opT : HloOp τ sig (Elt F) := StableHlo.unary main_arg0 main_v0 ((transpose S4x224x96x224 [0, 1, 3, 2] · transposes_S4x224x224x96_S4x224x96x224_0_1_3_2) : (⟨S4x224x224x96, .f32⟩ : BufTy).Contents (Elt F) → (⟨S4x224x96x224, .f32⟩ : BufTy).Contents (Elt F))
abbrev opF : HloOp τ sig (Elt F) := StableHlo.reshape main_arg1 main_v1 (rfl : (.i32 : EltTy) = .i32) shapeCasts_S4x64x4_S1024
abbrev opB : HloOp τ sig (Elt F) := StableHlo.unary main_v1 main_v2 (broadcastInDim S1024x16 ![0] bcast_S1024_S1024x16_0 : (⟨S1024, .i32⟩ : BufTy).Contents (Elt F) → (⟨S1024x16, .i32⟩ : BufTy).Contents (Elt F))
abbrev opG : HloOp τ sig (Elt F) := StableHlo.reshape main_v2 main_v3 (rfl : (.i32 : EltTy) = .i32) shapeCasts_S1024x16_S16384
abbrev opR : HloOp τ sig (Elt F) := StableHlo.reshape main_v4 main_v5 (rfl : (.f32 : EltTy) = .f32) shapeCasts_S4x224x224x128_S200704x128
abbrev opY : HloOp τ sig (Elt F) := StableHlo.reshape main_v6 main_v7 (rfl : (.f32 : EltTy) = .f32) shapeCasts_S256x96_S4x64x96

/-- The TensorCore's unscoped buffers. -/
abbrev ucRefs : Finset (DevRef τ sig) := (StableHlo.tcRefs τ sig).filter fun b => ¬ b.isScoped

theorem unscopedBufs_held (W : Valuation τ sig (Elt F)) :
    (unscopedBufs d (fun b => W b) : sProp 𝕄) = StableHlo.held (SparseCore.T d) ucRefs W := by
  unfold unscopedBufs StableHlo.held ucRefs StableHlo.tcRefs
  rw [Finset.filter_map, bigSep_map]
  rfl

theorem held_eq (W : Valuation τ sig (Elt F)) :
    (StableHlo.held (SparseCore.T d) ucRefs W : sProp 𝕄)
      = iprop((fLoc d ↦{fullShare} W (Proc.devRef .tc main_arg0)) ∗ (bLoc d ↦{fullShare} W (Proc.devRef .tc main_arg1)) ∗ (v0Loc d ↦{fullShare} W (Proc.devRef .tc main_v0))
        ∗ (rLoc d ↦{fullShare} W (Proc.devRef .tc main_v3)) ∗ (v4Loc d ↦{fullShare} W (Proc.devRef .tc main_v4)) ∗ (xLoc d ↦{fullShare} W (Proc.devRef .tc main_v5))
        ∗ (oLoc d ↦{fullShare} W (Proc.devRef .tc main_v6)) ∗ (yLoc d ↦{fullShare} W (Proc.devRef .tc main_v7))
        ∗ ((SparseCore.T d : Thread nD τ).loc main_v1 ↦{fullShare} W (Proc.devRef .tc main_v1)) ∗ ((SparseCore.T d : Thread nD τ).loc main_v2 ↦{fullShare} W (Proc.devRef .tc main_v2))) := by
  rw [← unscopedBufs_held]
  unfold unscopedBufs
  rw [show (Finset.univ.filter fun b : Ref sig .tc => ¬ b.isScoped) = {main_arg0, main_arg1, main_v0, main_v3, main_v4, main_v5, main_v6, main_v7, main_v1, main_v2} by decide,
    SparseCore.bigSep_insert' (by decide), SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide), bigSep_singleton]

theorem opT_sub : (opT (F := F)).bufs ⊆ ucRefs := by rw [StableHlo.unary_bufs]; decide
theorem opF_sub : (opF (F := F)).bufs ⊆ ucRefs := by rw [StableHlo.reshape_bufs]; decide
theorem opB_sub : (opB (F := F)).bufs ⊆ ucRefs := by rw [StableHlo.unary_bufs]; decide
theorem opG_sub : (opG (F := F)).bufs ⊆ ucRefs := by rw [StableHlo.reshape_bufs]; decide

/-- The buffers' contents when the window pass starts. -/
abbrev V₄ : Valuation τ sig (Elt F) := (opG (F := F)).result ((opB (F := F)).result ((opF (F := F)).result ((opT (F := F)).result fun b => m (d, b))))

theorem V₄_f : V₄ m d (Proc.devRef .tc main_arg0) = m (fLoc d) := by
  simp (disch := decide) only [StableHlo.reshape_result_ne', StableHlo.unary_result_ne']
theorem V₄_b : V₄ m d (Proc.devRef .tc main_arg1) = m (bLoc d) := by
  simp (disch := decide) only [StableHlo.reshape_result_ne', StableHlo.unary_result_ne']
theorem V₄_0 : V₄ m d (Proc.devRef .tc main_v0) = imgT (m (fLoc d)) := by
  simp (disch := decide) only [StableHlo.reshape_result_ne', StableHlo.unary_result_ne', StableHlo.unary_result']
theorem V₄_3 : V₄ m d (Proc.devRef .tc main_v3) = numF (numAt (m (bLoc d))) := by
  rw [← num_eq]
  simp (disch := decide) only [StableHlo.reshape_result_ne', StableHlo.unary_result_ne', StableHlo.unary_result', StableHlo.reshape_result']
  rfl

/-- The regions' numbers and the table of window maxima, from the launch memory. -/
abbrev numM : ℕ → ℕ := numAt (m (bLoc 0))
abbrev tabM : ℕ → ℕ → F .f32 := tabAt (m (fLoc 0))

/-- What is kept to the end: the arguments as they were, and the result. -/
abbrev FIN (d : Dev nD) : sProp 𝕄 :=
  iprop((fLoc d ↦{fullShare} m (fLoc d)) ∗ (bLoc d ↦{fullShare} m (bLoc d)) ∗ yLoc d ↦{fullShare} outOf (m (fLoc d)) (m (bLoc d)))

/-- One host operation reading one buffer and writing another. -/
theorem two_wp (op : HloOp τ sig (Elt F)) (x y : Ref sig .tc) (hne : (Proc.devRef .tc x : DevRef τ sig) ≠ Proc.devRef .tc y)
    (hb : op.bufs = {Proc.devRef .tc x, Proc.devRef .tc y}) (W : Valuation τ sig (Elt F)) (hx : op.result W (Proc.devRef .tc x) = W (Proc.devRef .tc x))
    (hf : op.fresh = ∅) {k : ((b : op.writes) → b.1.ty.Contents (Elt F)) → Prog (TpuEff nD τ sig (Elt F) (SparseCore.Sig (ΛP (F := F)) 1) .tc) PUnit.{1}} {Q : PUnit.{1} → sProp 𝕄} :
    iprop(boundary (SparseCore.T d) ∗ ((SparseCore.T d : Thread nD τ).loc x ↦{fullShare} W (Proc.devRef .tc x)) ∗ ((SparseCore.T d : Thread nD τ).loc y ↦{fullShare} W (Proc.devRef .tc y)))
      ⊢ iprop(((boundary (SparseCore.T d) ∗ ((SparseCore.T d : Thread nD τ).loc x ↦{fullShare} W (Proc.devRef .tc x)) ∗ ((SparseCore.T d : Thread nD τ).loc y ↦{fullShare} op.result W (Proc.devRef .tc y)))
          -∗ wp frame (wpE ((K (F := F)).defs (D (F := F))) 𝒱 (SparseCore.T d) none) Set.univ (k (op.fn fun b => W b.1)) Q)
        -∗ wp frame (wpE ((K (F := F)).defs (D (F := F))) 𝒱 (SparseCore.T d) none) Set.univ (hlo rfl op k) Q) := by
  have hh : ∀ W : Valuation τ sig (Elt F), (StableHlo.held (SparseCore.T d) op.bufs W : sProp 𝕄)
      = iprop(((SparseCore.T d : Thread nD τ).loc x ↦{fullShare} W (Proc.devRef .tc x)) ∗ ((SparseCore.T d : Thread nD τ).loc y ↦{fullShare} W (Proc.devRef .tc y))) := fun W => by
    unfold StableHlo.held
    rw [hb, SparseCore.bigSep_insert' (by simpa using hne), bigSep_singleton]
  have h := StableHlo.wp_hlo_within (defs := (K (F := F)).defs (D (F := F))) 𝒱 (SparseCore.T d : Thread nD τ) none Set.univ (hp := rfl) (op := op) (k := k) (S := op.bufs) subset_rfl (V := W) (Q := Q) hf
  rw [hh, hh, hx] at h
  exact h

/-- What the window pass needs of the TensorCore's state, and the rest of it. -/
theorem owed_split (n : ℕ) (hn : n = 0) : (K (F := F)).tcSt EH d n ⊢ iprop(owedTc (F := F) d ∗ (owedTc (F := F) d -∗ (K (F := F)).tcSt EH d n)) := by
  subst hn
  unfold SparseCore.Cfg.tcSt
  iintro ⟨HO, Hst⟩
  isplitl [HO]; · iexact HO
  iintro HO
  isplitl [HO] <;> iassumption

theorem lift_call : (Prog.lift (.customCall (SparseCore.inner (Pipeline.entry 0)) ()) : Prog (TpuEff nD τ sig (Elt F) (SparseCore.Sig (ΛP (F := F)) 1) .tc) PUnit.{1})
    = SparseCore.liftProg (Q := 1) (Prog.op (.customCall (Pipeline.entry 0) ()) .ret : Prog (TpuEff nD τ sig (Elt F) (ΛP (F := F)) .tc) PUnit.{1}) := rfl

/-- The window pass, in the program's own signature. -/
theorem call_wp [∀ e, Nonempty (Elt F e)] (A : S4x224x96x224.Idx → F .f32) (A4 : S4x224x224x128.Idx → F .f32) {Q : PUnit.{1} → sProp 𝕄} :
    iprop((iprop(boundary (SparseCore.T d) ∗ (∃ X, ⌜MaxTab A X⌝ ∗ v4Loc d ↦{fullShare} X) ∗ owedTc (F := F) d) -∗ Q ⟨⟩)
        ∗ boundary (SparseCore.T d) ∗ ((v0Loc d ↦{fullShare} A) ∗ (v4Loc d ↦{fullShare} A4) ∗ owedTc (F := F) d) ∗ levAts (K (F := F)).L (K (F := F)).lev ∗ G (F := F) d)
      ⊢ wp frame (wpE ((K (F := F)).defs (D (F := F))) 𝒱 (SparseCore.T d) none) Set.univ (Prog.lift (.customCall (SparseCore.inner (Pipeline.entry 0)) ())) Q := by
  rw [lift_call]
  refine BI.Entails.trans ?_ ((K (F := F)).wp_liftProg (D (F := F)) 𝒱 (SparseCore.T d) Set.univ none _ _)
  refine BI.Entails.trans ?_ (Pipeline.RDat.RegionSeg.wp (pcfgs (F := F)) (fun q => (cfgs q).toPCfg_adm) (rdats A A4) none cellOf_inj EP (defs₀ (F := F)) 𝒱₀ (K (F := F)).L (K (F := F)).lev (reg A A4) d none (fun u hu => nomatch hu) (fun x => .ret x) Q)
  unfold G
  rw [show (reg A A4).pre d = iprop((v0Loc d ↦{fullShare} A) ∗ (v4Loc d ↦{fullShare} A4) ∗ owedTc (F := F) d) from rfl,
    show (reg A A4).post d = iprop((∃ X, ⌜MaxTab A X⌝ ∗ v4Loc d ↦{fullShare} X) ∗ owedTc (F := F) d) from rfl]
  show (_ : sProp 𝕄) ⊢ (_ : sProp 𝕄)
  iintro ⟨Hk, Hb, Hpre, Hl, Hg, Ht⟩
  isplitl [Hk]
  · iintro ⟨Hb, HX, HO⟩
    simp only [wp_ret]
    imodintro
    iapply Hk
    isplitl [Hb]; · iexact Hb
    isplitl [HX] <;> iassumption
  isplitl [Hb]; · iexact Hb
  isplitl [Hpre]; · iexact Hpre
  isplitl [Hl]; · iexact Hl
  isplitl [Hg] <;> iassumption

set_option maxRecDepth 16384 in
theorem hmain [∀ e, Nonempty (Elt F e)] (κ : GSem nD τ sig → ℕ) (d : Dev nD) :
    iprop((K (F := F)).ctx EH (P (numM m) (tabM m)) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  obtain rfl : d = 0 := Fin.ext (by have h : d.val < 1 := d.isLt; exact Nat.lt_one_iff.1 h)
  unfold SparseCore.Cfg.tcRes SparseCore.Cfg.tcEnd
  rw [show (unscopedBufs 0 (fun b => m ((SparseCore.T 0 : Thread nD τ).loc b)) : sProp 𝕄) = StableHlo.held (SparseCore.T 0) ucRefs (fun b => m (0, b)) from unscopedBufs_held 0 fun b => m (0, b)]
  simp only [main, wp_bind, wp_pure]
  iintro ⟨#Hctx, Hst, ⟨Hb, Hu, Hts, -⟩, HG⟩
  iapply (StableHlo.wp_hlo_within (defs := (K (F := F)).defs (D (F := F))) 𝒱 (SparseCore.T 0 : Thread nD τ) none Set.univ (op := opT (F := F)) (S := ucRefs) opT_sub (V := fun b => m (0, b))) $$ [Hb Hu]
  · isplitl [Hb] <;> iassumption
  iintro ⟨Hb, Hu⟩
  simp only [wp_ret]
  imodintro
  iapply (StableHlo.wp_hlo_within (defs := (K (F := F)).defs (D (F := F))) 𝒱 (SparseCore.T 0 : Thread nD τ) none Set.univ (op := opF (F := F)) (S := ucRefs) opF_sub (V := (opT (F := F)).result fun b => m (0, b))) $$ [Hb Hu]
  · isplitl [Hb] <;> iassumption
  iintro ⟨Hb, Hu⟩
  simp only [wp_ret]
  imodintro
  iapply (StableHlo.wp_hlo_within (defs := (K (F := F)).defs (D (F := F))) 𝒱 (SparseCore.T 0 : Thread nD τ) none Set.univ (op := opB (F := F)) (S := ucRefs) opB_sub (V := (opF (F := F)).result ((opT (F := F)).result fun b => m (0, b)))) $$ [Hb Hu]
  · isplitl [Hb] <;> iassumption
  iintro ⟨Hb, Hu⟩
  simp only [wp_ret]
  imodintro
  iapply (StableHlo.wp_hlo_within (defs := (K (F := F)).defs (D (F := F))) 𝒱 (SparseCore.T 0 : Thread nD τ) none Set.univ (op := opG (F := F)) (S := ucRefs) opG_sub (V := (opB (F := F)).result ((opF (F := F)).result ((opT (F := F)).result fun b => m (0, b))))) $$ [Hb Hu]
  · isplitl [Hb] <;> iassumption
  iintro ⟨Hb, Hu⟩
  simp only [wp_ret]
  imodintro
  ihave Hu := (Entails.of_eq (held_eq 0 (V₄ m 0))) $$ Hu
  rw [V₄_f, V₄_b, V₄_0, V₄_3]
  icases Hu with ⟨Hf, Hr, H0, H3, H4, H5, H6, H7, -⟩
  ihave Hl := (SparseCore.Cfg.ctx_levAts κ) $$ Hctx
  ihave Hst := (owed_split 0 0 rfl) $$ Hst
  icases Hst with ⟨HO, Hst⟩
  iapply (call_wp 0 (imgT (m (fLoc 0))) (V₄ m 0 (Proc.devRef .tc main_v4)))
  isplitr [Hb H0 H4 HO HG]
  swap
  · isplitl [Hb]; · iexact Hb
    isplitl [H0 H4 HO]
    · isplitl [H0]; · iexact H0
      isplitl [H4]; · iexact H4
      iexact HO
    isplitr; · iexact Hl
    iexact HG
  iintro ⟨Hb, ⟨%X, %hX, H4⟩, HO⟩
  let W : Valuation τ sig (Elt F) := Function.update (V₄ m 0) (Proc.devRef .tc main_v4) X
  have hW4 : W (Proc.devRef .tc main_v4) = X := Function.update_self ..
  have hW5 : W (Proc.devRef .tc main_v5) = V₄ m 0 (Proc.devRef .tc main_v5) := Function.update_of_ne (by decide) ..
  have hR5 : (opR (F := F)).result W (Proc.devRef .tc main_v5) = shapeCast S200704x128 X shapeCasts_S4x224x224x128_S200704x128 := by
    rw [StableHlo.reshape_result', hW4]; rfl
  iapply (two_wp 0 (opR (F := F)) main_v4 main_v5 (by decide) (StableHlo.reshape_bufs ..) W (by simp (disch := decide) only [StableHlo.reshape_result_ne']) (by first | rfl | decide)) $$ [Hb H4 H5]
  · rw [hW4, hW5]
    isplitl [Hb]; · iexact Hb
    isplitl [H4] <;> iassumption
  rw [hR5]
  iintro ⟨Hb, -, H5⟩
  simp only [wp_ret]
  imodintro
  iapply ((K (F := F)).wp_run (D (F := F)) 𝒱 (EH := EH) (P := P (numM m) (tabM m)) κ 0 0)
  isplitr; · iexact Hctx
  isplitl [HO Hst]
  · iapply Hst; iexact HO
  isplitl [H3 H5 H6]
  · iapply (st0_intro (numM m) (tabM m) 0 (good_tab (m (fLoc 0)) hX) _)
    isplitl [H5]; · iexact H5
    isplitl [H3] <;> iassumption
  iintro ⟨Hst, Hdn⟩
  ihave H6 := (dn0_elim (numM m) (tabM m) 0) $$ Hdn
  let W' : Valuation τ sig (Elt F) := Function.update (V₄ m 0) (Proc.devRef .tc main_v6) (outF (numM m) (tabM m))
  have hW6 : W' (Proc.devRef .tc main_v6) = outF (numM m) (tabM m) := Function.update_self ..
  have hW7 : W' (Proc.devRef .tc main_v7) = V₄ m 0 (Proc.devRef .tc main_v7) := Function.update_of_ne (by decide) ..
  have hR7 : (opY (F := F)).result W' (Proc.devRef .tc main_v7) = outOf (m (fLoc 0)) (m (bLoc 0)) := by
    rw [StableHlo.reshape_result', hW6]; rfl
  iapply (two_wp 0 (opY (F := F)) main_v6 main_v7 (by decide) (StableHlo.reshape_bufs ..) W' (by simp (disch := decide) only [StableHlo.reshape_result_ne']) (by first | rfl | decide)) $$ [Hb H6 H7]
  · rw [hW6, hW7]
    isplitl [Hb]; · iexact Hb
    isplitl [H6] <;> iassumption
  rw [hR7]
  iintro ⟨Hb, -, H7⟩
  simp only [wp_ret]
  imodintro
  imodintro
  isplitl [Hst]; · iexact Hst
  isplitr [Hb Hts]
  · isplitl [Hf]; · iexact Hf
    isplitl [Hr] <;> iassumption
  isplitl [Hb] <;> iassumption

def fq (d : Dev nD) (s' : Phys nD τ sig (Elt F)) : Prop :=
  s'.mem.mem (fLoc d) = m (fLoc d) ∧ s'.mem.mem (bLoc d) = m (bLoc d) ∧ s'.mem.mem (yLoc d) = outOf (m (fLoc d)) (m (bLoc d))

set_option maxRecDepth 16384 in
theorem hfin (d : Dev nD) (s' : Phys nD τ sig (Elt F)) : iprop(FIN m d ∗ SI s') ⊢ (⌜fq m d s'⌝ : sProp 𝕄) := by
  iintro ⟨⟨Hf, Hr, Hy⟩, HSI⟩
  ihave H := (persistent_entails_right (SI_pointsTo_agree (st := s') (ℓ := fLoc d) (I := Finset.univ) (q := fullShare) (f := m (fLoc d)))) $$ [HSI Hf]
  · isplitl [HSI] <;> iassumption
  icases H with ⟨%h1, HSI, -⟩
  ihave H := (persistent_entails_right (SI_pointsTo_agree (st := s') (ℓ := bLoc d) (I := Finset.univ) (q := fullShare) (f := m (bLoc d)))) $$ [HSI Hr]
  · isplitl [HSI] <;> iassumption
  icases H with ⟨%h2, HSI, -⟩
  ihave H := (SI_pointsTo_agree (st := s') (ℓ := yLoc d) (I := Finset.univ) (q := fullShare) (f := outOf (m (fLoc d)) (m (bLoc d)))) $$ [HSI Hy]
  · isplitl [HSI] <;> iassumption
  icases H with %h3
  ipureintro; exact ⟨funext fun i => h1 i (Finset.mem_univ i), funext fun i => h2 i (Finset.mem_univ i), funext fun i => h3 i (Finset.mem_univ i)⟩

/-- Every run ends, with the arguments as they were, the result the pooled rows, and every semaphore at zero. -/
theorem run_main [∀ e, Nonempty (Elt F e)] (hR : InRange (numM m)) :
    θ_run (Cert.KernelIdeal.defs (F := F)) (Cert.KernelIdeal.threads (F := F)) ⟨m, fun _ => 0, ρ⟩
      (fun r => (∀ d : Dev nD, r.2.mem (fLoc d) = m (fLoc d) ∧ r.2.mem (bLoc d) = m (bLoc d) ∧ r.2.mem (yLoc d) = outOf (m (fLoc d)) (m (bLoc d))) ∧ r.2.sem = fun _ => 0) :=
  SparseCore.Cfg.θ_run_sc_quiescent (K := K (F := F)) (D := D (F := F)) (𝒱 := 𝒱) (EH := EH) (P := P (numM m) (tabM m)) (A := ∅) facts v₀
    (fun q hq => match q with | 0 => nomatch hq)
    (fun q _ => match q with | 0 => tileObl (numM m) (tabM m) hR)
    (fun q _ => match q with | 0 => SparseCore.Cfg.VecSplit.of_plain (vecSplit (numM m) (tabM m)))
    m ρ main (fun d => G (F := F) d) (FIN m) (u₀ (F := F)) (sep_elim_left.trans (hu₀ (numM m) (tabM m))) (hmain m ρ) (fq m) (hfin m) _ (fun _ h hz => ⟨h, hz⟩)

end Main

end Cert.KernelIdeal.Pool
-- ==== Proof.IdealFinal.lean ====
module

public import proofs.«01_k».proof.Proof.IdealMain
public import proofs.«01_k».proof.Proof.Bounds

@[expose] public section

noncomputable section

namespace Cert.KernelIdeal.Pool

open Cert.KernelIdeal Cert.KernelIdeal.Gen Idealize.ShloMosaic Idealize.ShloMosaic.TcCoe

variable {F : FTy → Type} [FloatOps F]

/-- The stated range of the boxes, as the run wants it. -/
theorem inRange_of_pre (img : FVec F S4x224x224x96 .f32) (rois : IVec S4x64x4 32)
    (h : Cert.Pre_in_range.fn img rois = fun _ => 1#1) : InRange (numAt rois) := by
  intro n hn
  have hb := Cert.PoolBounds.bounds img rois h (Fin.ofNat 4 (n / 64)) (Fin.ofNat 64 (n % 64))
  have key : ∀ (k : ℕ) (hk : k < 4), numAt rois (4 * n + k) = (rois (Cert.PoolBounds.at3 (Fin.ofNat 4 (n / 64)) (Fin.ofNat 64 (n % 64)) ⟨k, hk⟩)).toNat := by
    intro k hk
    unfold numAt
    congr 2
    funext a
    match a with
    | 0 => exact congrArg (Fin.ofNat 4) (by omega)
    | 1 => exact congrArg (Fin.ofNat 64) (by omega)
    | 2 => exact Fin.ext (show (4 * n + k) % 4 % 4 = k by omega)
  rw [show 4 * n = 4 * n + 0 from rfl, key 0 (by decide), Nat.add_zero, key 1 (by decide), key 2 (by decide), key 3 (by decide)]
  exact ⟨hb.1.1, hb.1.2, hb.2.1, hb.2.2⟩

end Cert.KernelIdeal.Pool
-- ==== Proof.Windows.lean ====
module

public import proofs.«01_k».proof.Proof.IdealMain
public import Idealize.ShloMosaic.PureOps.Ideal.Laws
public import Idealize.ShloMosaic.Lib.ValueIdxCore
public import Idealize.ShloMosaic.Lib.Pipeline.Value

@[expose] public section

noncomputable section

namespace Cert.KernelIdeal.Pool

open Cert.KernelIdeal Cert.KernelIdeal.Gen Cert.PoolWords Idealize.ShloMosaic Idealize.ShloMosaic.ValueIdx

/-! ## An array of rows, columns and channels, read at natural numbers -/

/-- Row `a`, column `b`, channel `c`, each wrapped around its axis. -/
def rd {n : ℕ} [NeZero n] (v : (⟨3, ![n, 224, 96]⟩ : Shape).Idx → EReal) (a b c : ℕ) : EReal :=
  v (ix3 (Fin.ofNat n a) (Fin.ofNat 224 b) (Fin.ofNat 96 c))

/-- The columns taken from `k` on, then the first `k`: column `b` of it is column `b + k`. -/
theorem rd_roll {m k : ℕ} (hmk : m + k = 224) (v : S120x224x96.Idx → EReal)
    (h1 : S120x224x96.Slices ![0, k, 0] ⟨3, ![120, m, 96]⟩) (h2 : S120x224x96.Slices ![0, 0, 0] ⟨3, ![120, k, 96]⟩)
    (h3 : Shape.Concatenates [⟨3, ![120, m, 96]⟩, ⟨3, ![120, k, 96]⟩] S120x224x96 1) (a b c : ℕ) :
    rd (concatenate S120x224x96 1 [⟨⟨3, ![120, m, 96]⟩, extractStridedSlice ⟨3, ![120, m, 96]⟩ ![0, k, 0] v h1⟩,
      ⟨⟨3, ![120, k, 96]⟩, extractStridedSlice ⟨3, ![120, k, 96]⟩ ![0, 0, 0] v h2⟩] h3) a b c = rd v a (b + k) c := by
  unfold rd
  by_cases hb : b % 224 < m
  · refine Eq.trans (concatenate_pair_apply_left (s₁ := ⟨3, ![120, m, 96]⟩) (s₂ := ⟨3, ![120, k, 96]⟩) 1 _ _ h3 _ rfl (ix3 (Fin.ofNat 120 a) ⟨b % 224, hb⟩ (Fin.ofNat 96 c)) (fun x => by
      match x with
      | 0 => rfl
      | 1 => rfl
      | 2 => rfl)) ?_
    refine extractStridedSlice_apply _ v h1 _ _ fun x => ?_
    match x with
    | 0 => exact (Nat.zero_add _).symm
    | 1 => show (b + k) % 224 = k + b % 224; omega
    | 2 => exact (Nat.zero_add _).symm
  · have hb' : b % 224 - m < k := by have := Nat.mod_lt b (show 224 > 0 by decide); omega
    refine Eq.trans (concatenate_pair_apply_right (s₁ := ⟨3, ![120, m, 96]⟩) (s₂ := ⟨3, ![120, k, 96]⟩) 1 _ _ h3 _ rfl rfl (ix3 (Fin.ofNat 120 a) ⟨b % 224 - m, hb'⟩ (Fin.ofNat 96 c)) (fun x hx => by
      match x with
      | 0 => rfl
      | 1 => exact absurd rfl hx
      | 2 => rfl) (by show b % 224 - m + m = b % 224; omega)) ?_
    refine extractStridedSlice_apply _ v h2 _ _ fun x => ?_
    match x with
    | 0 => exact (Nat.zero_add _).symm
    | 1 => show (b + k) % 224 = 0 + (b % 224 - m); omega
    | 2 => exact (Nat.zero_add _).symm

/-- The rows from `k` on: row `a` of them is row `a + k`. -/
theorem rd_rows {n m k : ℕ} [NeZero n] [NeZero m] (hmk : m + k ≤ n) (v : (⟨3, ![n, 224, 96]⟩ : Shape).Idx → EReal)
    (h : (⟨3, ![n, 224, 96]⟩ : Shape).Slices ![k, 0, 0] ⟨3, ![m, 224, 96]⟩) {a : ℕ} (ha : a < m) (b c : ℕ) :
    rd (extractStridedSlice ⟨3, ![m, 224, 96]⟩ ![k, 0, 0] v h) a b c = rd v (a + k) b c := by
  refine extractStridedSlice_apply _ v h _ _ fun x => ?_
  match x with
  | 0 => show (a + k) % n = k + a % m; rw [Nat.mod_eq_of_lt ha, Nat.mod_eq_of_lt (by omega)]; omega
  | 1 => exact (Nat.zero_add _).symm
  | 2 => exact (Nat.zero_add _).symm

theorem rd_max {n : ℕ} [NeZero n] (v w : FVec Ideal ⟨3, ![n, 224, 96]⟩ .f32) (a b c : ℕ) :
    rd (maximumf v w) a b c = max (rd v a b c) (rd w a b c) := rfl

/-- Doubling a run of bounded values. -/
theorem span {f : ℕ → EReal} {z : EReal} (n b : ℕ) :
    ((∀ j < n, f (b + j) ≤ z) ∧ ∀ j < n, f (b + n + j) ≤ z) ↔ ∀ j < n + n, f (b + j) ≤ z := by
  constructor
  · rintro ⟨h1, h2⟩ j hj
    by_cases h : j < n
    · exact h1 j h
    · have := h2 (j - n) (by omega)
      rwa [show b + n + (j - n) = b + j by omega] at this
  · intro h
    refine ⟨fun j hj => h j (by omega), fun j hj => ?_⟩
    have := h (n + j) (by omega)
    rwa [← Nat.add_assoc] at this

/-! ## The window pass's payload, stage by stage -/

section Payload

variable (v0 : Vec Ideal S1x112x96x224 .f32) (v2 : Vec Ideal S1x8x96x224 .f32)

/-- The rows of the two blocks, one after the other. -/
def rows : FVec Ideal S120x96x224 .f32 :=
  concatenate S120x96x224 0 [⟨S112x96x224, shapeCast S112x96x224 v0 shapeCasts_S1x112x96x224_S112x96x224⟩, ⟨S8x96x224, shapeCast S8x96x224 v2 shapeCasts_S1x8x96x224_S8x96x224⟩] concatenates_S112x96x224_S8x96x224_S120x96x224_d0

/-- The identity matrix. -/
def eye : FVec Ideal S96x96 .f32 :=
  sitofp .f32 (extui 32 (cmpi .eq (addi (iota .tc S96x96 32 [0] iota_S96x96_d0_w32) (broadcast S96x96 0#32)) (iota .tc S96x96 32 [1] iota_S96x96_d1_w32)) natLt_1_32)

/-- The rows with the channels last. -/
def turned : FVec Ideal S120x224x96 .f32 :=
  matmul dot_S120x96x224_S96x96_S120x224x96_1_0_02_1_n_n none (rows v0 v2) eye (constant S120x224x96 .f32 0x00000000#32)

def roll1 (v : FVec Ideal S120x224x96 .f32) : FVec Ideal S120x224x96 .f32 :=
  maximumf v (concatenate S120x224x96 1 [⟨S120x223x96, extractStridedSlice S120x223x96 ![0, 1, 0] v slices_S120x224x96_o0_1_0_S120x223x96⟩, ⟨S120x1x96, extractStridedSlice S120x1x96 ![0, 0, 0] v slices_S120x224x96_o0_0_0_S120x1x96⟩] concatenates_S120x223x96_S120x1x96_S120x224x96_d1)
def roll2 (v : FVec Ideal S120x224x96 .f32) : FVec Ideal S120x224x96 .f32 :=
  maximumf v (concatenate S120x224x96 1 [⟨S120x222x96, extractStridedSlice S120x222x96 ![0, 2, 0] v slices_S120x224x96_o0_2_0_S120x222x96⟩, ⟨S120x2x96, extractStridedSlice S120x2x96 ![0, 0, 0] v slices_S120x224x96_o0_0_0_S120x2x96⟩] concatenates_S120x222x96_S120x2x96_S120x224x96_d1)
def roll4 (v : FVec Ideal S120x224x96 .f32) : FVec Ideal S120x224x96 .f32 :=
  maximumf v (concatenate S120x224x96 1 [⟨S120x220x96, extractStridedSlice S120x220x96 ![0, 4, 0] v slices_S120x224x96_o0_4_0_S120x220x96⟩, ⟨S120x4x96, extractStridedSlice S120x4x96 ![0, 0, 0] v slices_S120x224x96_o0_0_0_S120x4x96⟩] concatenates_S120x220x96_S120x4x96_S120x224x96_d1)

def down1 (v : FVec Ideal S120x224x96 .f32) : FVec Ideal S119x224x96 .f32 :=
  maximumf (extractStridedSlice S119x224x96 ![0, 0, 0] v slices_S120x224x96_o0_0_0_S119x224x96) (extractStridedSlice S119x224x96 ![1, 0, 0] v slices_S120x224x96_o1_0_0_S119x224x96)
def down2 (v : FVec Ideal S119x224x96 .f32) : FVec Ideal S117x224x96 .f32 :=
  maximumf (extractStridedSlice S117x224x96 ![0, 0, 0] v slices_S119x224x96_o0_0_0_S117x224x96) (extractStridedSlice S117x224x96 ![2, 0, 0] v slices_S119x224x96_o2_0_0_S117x224x96)
def down4 (v : FVec Ideal S117x224x96 .f32) : FVec Ideal S112x224x96 .f32 :=
  maximumf (extractStridedSlice S112x224x96 ![0, 0, 0] v slices_S117x224x96_o0_0_0_S112x224x96) (extractStridedSlice S112x224x96 ![4, 0, 0] v slices_S117x224x96_o4_0_0_S112x224x96)

theorem pay_eq : k0_pay1 v0 v2 = shapeCast S1x112x224x96 (down4 (down2 (down1 (roll4 (roll2 (roll1 (turned v0 v2))))))) shapeCasts_S112x224x96_S1x112x224x96 := rfl

theorem roll1_le (v : FVec Ideal S120x224x96 .f32) (a b c : ℕ) (z : EReal) : rd (roll1 v) a b c ≤ z ↔ ∀ j < 2, rd v a (b + j) c ≤ z := by
  unfold roll1
  rw [rd_max, rd_roll (m := 223) (k := 1) rfl, max_le_iff]
  refine Iff.trans ?_ (span (f := fun x => rd v a x c) 1 b)
  simp
theorem roll2_le (v : FVec Ideal S120x224x96 .f32) (a b c : ℕ) (z : EReal) : rd (roll2 (roll1 v)) a b c ≤ z ↔ ∀ j < 4, rd v a (b + j) c ≤ z := by
  rw [roll2, rd_max, rd_roll (m := 222) (k := 2) rfl, max_le_iff, roll1_le, roll1_le]
  exact span (f := fun x => rd v a x c) 2 b
theorem roll4_le (v : FVec Ideal S120x224x96 .f32) (a b c : ℕ) (z : EReal) : rd (roll4 (roll2 (roll1 v))) a b c ≤ z ↔ ∀ j < 8, rd v a (b + j) c ≤ z := by
  rw [roll4, rd_max, rd_roll (m := 220) (k := 4) rfl, max_le_iff, roll2_le, roll2_le]
  exact span (f := fun x => rd v a x c) 4 b

theorem down1_le (v : FVec Ideal S120x224x96 .f32) {a : ℕ} (ha : a < 119) (b c : ℕ) (z : EReal) : rd (n := 119) (down1 v) a b c ≤ z ↔ ∀ j < 2, rd v (a + j) b c ≤ z := by
  unfold down1
  rw [rd_max, rd_rows (by decide) _ _ ha, rd_rows (by decide) _ _ ha, max_le_iff]
  refine Iff.trans ?_ (span (f := fun x => rd v x b c) 1 a)
  simp
theorem down2_le (v : FVec Ideal S120x224x96 .f32) {a : ℕ} (ha : a < 117) (b c : ℕ) (z : EReal) : rd (n := 117) (down2 (down1 v)) a b c ≤ z ↔ ∀ j < 4, rd v (a + j) b c ≤ z := by
  rw [down2, rd_max, rd_rows (by decide) _ _ ha, rd_rows (by decide) _ _ ha, max_le_iff, down1_le _ (by omega), down1_le _ (by omega)]
  exact span (f := fun x => rd v x b c) 2 a
theorem down4_le (v : FVec Ideal S120x224x96 .f32) {a : ℕ} (ha : a < 112) (b c : ℕ) (z : EReal) : rd (n := 112) (down4 (down2 (down1 v))) a b c ≤ z ↔ ∀ j < 8, rd v (a + j) b c ≤ z := by
  rw [down4, rd_max, rd_rows (by decide) _ _ ha, rd_rows (by decide) _ _ ha, max_le_iff, down2_le _ (by omega), down2_le _ (by omega)]
  exact span (f := fun x => rd v x b c) 4 a

theorem eye_apply (i j : Fin 96) : eye (ix2 i j) = if i = j then 1 else 0 := by
  have h : ∀ i j : Fin 96, (BitVec.ofNat 32 (0 * 96 + i.val) + 0#32 == BitVec.ofNat 32 (0 * 96 + j.val)) = decide (i = j) := by decide
  show (((IntOp.cmpi .eq (BitVec.ofNat 32 (0 * 96 + i.val) + 0#32) (BitVec.ofNat 32 (0 * 96 + j.val))).setWidth 32).toInt : ℝ).toEReal = _
  unfold IntOp.cmpi
  simp only [h]
  by_cases e : i = j <;> simp [e]

theorem turned_apply (a : Fin 120) (b : Fin 224) (c : Fin 96) : turned v0 v2 (ix3 a b c) = rows v0 v2 (ix3 a c b) := by
  unfold turned
  show FloatOps.matmul _ _ _ _ _ _ = _
  let D := dot_S120x96x224_S96x96_S120x224x96_1_0_02_1_n_n
  rw [Ideal.matmul_constant_zero_apply, ← Equiv.sum_comp (contrEquiv1 D 96 rfl rfl).symm]
  have hk := fun k => contrEquiv1_symm_val D 96 rfl rfl k
  rw [Finset.sum_eq_single c]
  · have el : D.lhsIdx (ix3 a b c) ((contrEquiv1 D 96 rfl rfl).symm c) = ix3 a c b := by
      funext x; apply Fin.ext
      match x with
      | 0 => rfl
      | 1 => exact hk c
      | 2 => rfl
    have er : D.rhsIdx (ix3 a b c) ((contrEquiv1 D 96 rfl rfl).symm c) = ix2 c c := by
      funext x; apply Fin.ext
      match x with
      | 0 => exact hk c
      | 1 => rfl
    rw [el, er, eye_apply, if_pos rfl, mul_one]
  · intro k _ hkc
    have er : D.rhsIdx (ix3 a b c) ((contrEquiv1 D 96 rfl rfl).symm k) = ix2 k c := by
      funext x; apply Fin.ext
      match x with
      | 0 => exact hk k
      | 1 => rfl
    rw [er, eye_apply, if_neg hkc, mul_zero]
  · intro h; exact absurd (Finset.mem_univ c) h

theorem rows_left (a : Fin 120) (b : Fin 96) (c : Fin 224) (ha : a.val < 112) : rows v0 v2 (ix3 a b c) = v0 (ix4 (0 : Fin 1) (⟨a.val, ha⟩ : Fin 112) b c) := by
  unfold rows
  refine Eq.trans (concatenate_pair_apply_left (t := S120x96x224) (s₁ := S112x96x224) (s₂ := S8x96x224) 0 _ _ _ _ rfl (ix3 (⟨a.val, ha⟩ : Fin 112) b c) (fun x => by
      match x with
      | 0 => rfl
      | 1 => rfl
      | 2 => rfl)) ?_
  refine shapeCast_apply _ _ _ _ ?_
  rw [Shape.rowMajor_val_four, Shape.rowMajor_val_three]
  show ((0 * 112 + a.val) * 96 + b.val) * 224 + c.val = (a.val * 96 + b.val) * 224 + c.val
  omega
theorem rows_right (a : Fin 120) (b : Fin 96) (c : Fin 224) (ha : 112 ≤ a.val) : rows v0 v2 (ix3 a b c) = v2 (ix4 (0 : Fin 1) (⟨a.val - 112, by have := a.isLt; omega⟩ : Fin 8) b c) := by
  unfold rows
  refine Eq.trans (concatenate_pair_apply_right (t := S120x96x224) (s₁ := S112x96x224) (s₂ := S8x96x224) 0 _ _ _ _ rfl rfl (ix3 (⟨a.val - 112, by have := a.isLt; omega⟩ : Fin 8) b c) (fun x hx => by
      match x with
      | 0 => exact absurd rfl hx
      | 1 => rfl
      | 2 => rfl) (by show a.val - 112 + 112 = a.val; omega)) ?_
  refine shapeCast_apply _ _ _ _ ?_
  rw [Shape.rowMajor_val_four, Shape.rowMajor_val_three]
  show ((0 * 8 + (a.val - 112)) * 96 + b.val) * 224 + c.val = ((a.val - 112) * 96 + b.val) * 224 + c.val
  omega

end Payload

/-- A window maximum is at most `z` exactly when the 8 x 8 values of its window are. -/
theorem maxAt_le (A : S4x224x96x224.Idx → EReal) {g r cl ch : ℕ} (hr : r + 8 ≤ 224) (hcl : cl + 8 ≤ 224) (hch : ch < 96) (z : EReal) :
    maxAt (F := Ideal) A g r cl ch ≤ z ↔ ∀ i < 8, ∀ j < 8, imgAt (F := Ideal) A g (r + i) ch (cl + j) ≤ z := by
  have e : maxAt (F := Ideal) A g r cl ch = rd (n := 112) (down4 (down2 (down1 (roll4 (roll2 (roll1 (turned (blkA A g (r / 112)) (blkB A g (r / 112))))))))) (r % 112) cl ch := by
    unfold maxAt
    rw [pay_eq]
    refine shapeCast_apply _ _ _ _ ?_
    rw [Shape.rowMajor_val_four, Shape.rowMajor_val_three]
    show ((r % 112 % 112) * 224 + cl % 224) * 96 + ch % 96 = (((0 * 112 + r % 112 % 112) * 224 + cl % 224) * 96 + ch % 96)
    omega
  rw [e, down4_le _ (Nat.mod_lt _ (by decide))]
  refine forall₂_congr fun i hi => ?_
  rw [roll4_le]
  refine forall₂_congr fun j hj => ?_
  have hb : (cl + j) % 224 = cl + j := Nat.mod_eq_of_lt (by omega)
  have hc : ch % 96 = ch := Nat.mod_eq_of_lt hch
  have ha : (r % 112 + i) % 120 = r % 112 + i := Nat.mod_eq_of_lt (by omega)
  rw [rd, turned_apply]
  refine iff_of_eq (congrArg (· ≤ z) ?_)
  by_cases h : r % 112 + i < 112
  · rw [rows_left _ _ _ _ _ (show (r % 112 + i) % 120 < 112 by omega)]
    show imgAt (F := Ideal) A g (112 * (r / 112) + (r % 112 + i) % 120) (ch % 96) ((cl + j) % 224) = _
    rw [ha, hb, hc, show 112 * (r / 112) + (r % 112 + i) = r + i by omega]
  · rw [rows_right _ _ _ _ _ (show 112 ≤ (r % 112 + i) % 120 by omega)]
    show imgAt (F := Ideal) A g (8 * min (14 * (r / 112 + 1)) 27 + ((r % 112 + i) % 120 - 112)) (ch % 96) ((cl + j) % 224) = _
    rw [ha, hb, hc, show 8 * min (14 * (r / 112 + 1)) 27 + (r % 112 + i - 112) = r + i by omega]

/-! ## The samples of a box cover it -/

theorem covers {e a : ℕ} (he : 8 ≤ e) (ha : a < e) : ∃ p < steps e, ∃ i < 8, min (p * 8) (e - 8) + i = a :=
  ⟨a / 8, by unfold steps; omega, a - min (a / 8 * 8) (e - 8), by omega, by omega⟩

/-- The windows of the samples of a box hold its cells and no other. -/
theorem cover {P : ℕ → ℕ → Prop} {x y w h : ℕ} (hw : 8 ≤ w) (hh : 8 ≤ h) :
    (∀ k < cntOf w h, ∀ i < 8, ∀ j < 8, P (y + min (k / steps w * 8) (h - 8) + i) (x + min ((k - k / steps w * steps w) * 8) (w - 8) + j))
      ↔ ∀ a < h, ∀ b < w, P (y + a) (x + b) := by
  constructor
  · intro H a ha b hb
    obtain ⟨p, hp, i, hi, rfl⟩ := covers hh ha
    obtain ⟨q, hq, j, hj, rfl⟩ := covers hw hb
    have hd : (p * steps w + q) / steps w = p := by
      rw [Nat.mul_comm, Nat.mul_add_div (steps_pos w), Nat.div_eq_of_lt hq, Nat.add_zero]
    have hk : p * steps w + q < cntOf w h := by
      have := Nat.mul_le_mul_right (steps w) (show p + 1 ≤ steps h from hp)
      rw [Nat.add_mul, Nat.one_mul] at this
      unfold cntOf
      omega
    have := H _ hk i hi j hj
    rwa [hd, Nat.add_sub_cancel_left, Nat.add_assoc, Nat.add_assoc] at this
  · intro H k _ i hi j hj
    rw [Nat.add_assoc, Nat.add_assoc]
    exact H _ (by omega) _ (by omega)

theorem runMax_le (f : ℕ → EReal) (z : EReal) (n : ℕ) : runMax (F := Ideal) f n ≤ z ↔ ∀ k < n, f k ≤ z := by
  induction n with
  | zero =>
    refine iff_of_true ?_ (by simp)
    show Ideal.ofBits .f32 0xFF800000#32 ≤ z
    rw [show Ideal.ofBits .f32 0xFF800000#32 = (⊥ : EReal) by simp [Ideal.ofBits, Ideal.ieee]]
    exact bot_le
  | succ n ih =>
    show max _ _ ≤ z ↔ _
    rw [max_le_iff, ih]
    constructor
    · rintro ⟨h1, h2⟩ k hk
      rcases Nat.lt_succ_iff_lt_or_eq.1 hk with h | rfl
      · exact h1 k h
      · exact h2
    · exact fun h => ⟨fun k hk => h k (by omega), h n (by omega)⟩

theorem imgAt_T (img : S4x224x224x96.Idx → EReal) (g r ch cl : ℕ) :
    imgAt (F := Ideal) (imgT (F := Ideal) img) g r ch cl = img (ix4 (Fin.ofNat 4 g) (Fin.ofNat 224 r) (Fin.ofNat 224 cl) (Fin.ofNat 96 ch)) := by
  refine transpose_apply _ _ _ _ _ fun x => ?_
  match x with
  | 0 => rfl
  | 1 => rfl
  | 2 => rfl
  | 3 => rfl

/-- A pooled value is at most `z` exactly when every cell of its box is. -/
theorem outOf_le (img : S4x224x224x96.Idx → EReal) (rois : S4x64x4.Idx → BitVec 32) (hR : InRange (numAt rois)) (g : Fin 4) (r : Fin 64) (c : Fin 96)
    (z : EReal) : outOf (F := Ideal) img rois (ix3 g r c) ≤ z
      ↔ ∀ a < (rois (ix3 g r 3)).toNat, ∀ b < (rois (ix3 g r 2)).toNat,
          img (ix4 g (Fin.ofNat 224 ((rois (ix3 g r 1)).toNat + a)) (Fin.ofNat 224 ((rois (ix3 g r 0)).toNat + b)) c) ≤ z := by
  have hn : g.val * 64 + r.val < 256 := by have := g.isLt; have := r.isLt; omega
  have num : ∀ (k : ℕ) (hk : k < 4), numAt rois (4 * (g.val * 64 + r.val) + k) = (rois (ix3 g r ⟨k, hk⟩)).toNat := by
    intro k hk
    unfold numAt
    have := r.isLt; have := g.isLt
    congr 2
    funext a
    match a with
    | 0 => exact Fin.ext (show (4 * (g.val * 64 + r.val) + k) / 256 % 4 = g.val by omega)
    | 1 => exact Fin.ext (show (4 * (g.val * 64 + r.val) + k) / 4 % 64 % 64 = r.val by omega)
    | 2 => exact Fin.ext (show (4 * (g.val * 64 + r.val) + k) % 4 % 4 = k by omega)
  have e : outOf (F := Ideal) img rois (ix3 g r c) = outF (F := Ideal) (numAt rois) (tabAt (F := Ideal) img) (ix2 (⟨g.val * 64 + r.val, hn⟩ : Fin 256) c) := by
    refine shapeCast_apply _ _ _ _ ?_
    rw [Shape.rowMajor_val_two, Shape.rowMajor_val_three]
    rfl
  have hb := hR _ hn
  have n0 := num 0 (by decide)
  have n1 := num 1 (by decide)
  have n2 := num 2 (by decide)
  have n3 := num 3 (by decide)
  rw [Nat.add_zero] at n0
  rw [e]
  show runMax (F := Ideal) (fun k => tabAt (F := Ideal) img (rowOf (numAt rois) (g.val * 64 + r.val) k) c.val) (numOf (numAt rois) (g.val * 64 + r.val)) ≤ z ↔ _
  unfold rowOf numOf
  rw [runMax_le]
  rw [n0, n1, n2, n3] at hb
  rw [n0, n1, n2, n3]
  have hg : (g.val * 64 + r.val) / 64 = g.val := by have := r.isLt; omega
  simp only [hg]
  refine Iff.trans ?_ (cover (P := fun a b => img (ix4 g (Fin.ofNat 224 a) (Fin.ofNat 224 b) c) ≤ z) hb.2.2.1.1 hb.2.2.2.1)
  refine forall₂_congr fun k _ => ?_
  unfold tabAt idxOf
  generalize hu : (rois (ix3 g r ⟨1, by decide⟩)).toNat + min (k / steps _ * 8) _ = u
  generalize hv : (rois (ix3 g r ⟨0, by decide⟩)).toNat + min _ _ = v
  have hu' : u + 8 ≤ 224 := by omega
  have hv' : v + 8 ≤ 224 := by omega
  rw [show (g.val * 50176 + u * 224 + v) / 50176 = g.val by omega, show (g.val * 50176 + u * 224 + v) % 50176 / 224 = u by omega,
    show (g.val * 50176 + u * 224 + v) % 224 = v by omega, maxAt_le _ hu' hv' c.isLt]
  refine forall₂_congr fun i _ => forall₂_congr fun j _ => ?_
  subst hu hv
  rw [imgAt_T, show Fin.ofNat 4 g.val = g from Fin.ext (Nat.mod_eq_of_lt g.isLt), show Fin.ofNat 96 c.val = c from Fin.ext (Nat.mod_eq_of_lt c.isLt)]
  exact Iff.rfl

end Cert.KernelIdeal.Pool
-- ==== Proof.Boxes.lean ====
module

public import proofs.«01_k».proof.Proof.Gen.ReferenceIdeal.Run
public import Idealize.ShloMosaic.PureOps.Ideal.Laws
public import Idealize.ShloMosaic.Lib.ValueIdxCore
public import Idealize.ShloMosaic.Lib.Pipeline.Value

@[expose] public section

noncomputable section

namespace Cert.ReferenceIdeal.Boxes

open Cert.ReferenceIdeal Cert.ReferenceIdeal.Gen Idealize.ShloMosaic Idealize.ShloMosaic.ValueIdx

/-- Word `k` of every box. -/
def word (rois : IVec S4x64x4 32) (k : ℕ) (h : S4x64x4.Slices ![0, 0, k] S4x64x1) : IVec S4x64 32 :=
  shapeCast S4x64 (extractStridedSlice S4x64x1 ![0, 0, k] rois h) shapeCasts_S4x64x1_S4x64

theorem word_apply (rois : IVec S4x64x4 32) (k : Fin 4) (h : S4x64x4.Slices ![0, 0, k.val] S4x64x1) (i : S4x64.Idx) (g : Fin 4) (r : Fin 64)
    (hg : i 0 = g) (hr : i 1 = r) : word rois k.val h i = rois (ix3 g r k) := by
  subst hg hr
  unfold word
  refine (shapeCast_apply _ _ _ (ix3 (i 0) (i 1) (0 : Fin 1)) ?_).trans (extractStridedSlice_apply _ rois h _ _ fun x => ?_)
  · rw [Shape.rowMajor_val_two, Shape.rowMajor_val_three]
    show ((i 0).val * 64 + (i 1).val) * 1 + 0 = (i 0).val * 64 + (i 1).val
    omega
  · match x with
    | 0 => exact (Nat.zero_add _).symm
    | 1 => exact (Nat.zero_add _).symm
    | 2 => rfl

/-- The image with every cell outside each box at minus infinity. -/
def masked (img : FVec Ideal S4x224x224x96 .f32) (rois : IVec S4x64x4 32) : FVec Ideal S4x64x224x224x96 .f32 :=
  select (broadcastInDim S4x64x224x224x96 ![0, 1, 2, 3, 4] bcast_S4x64x224x224x1_S4x64x224x224x96_0_1_2_3_4 (broadcastInDim S4x64x224x224x1 ![0, 1, 2, 3] bcast_S4x64x224x224_S4x64x224x224x1_0_1_2_3 (andi (andi (broadcastInDim S4x64x224x224 ![0, 1, 2, 3] bcast_S4x64x224x1_S4x64x224x224_0_1_2_3 (andi (cmpi .sge (broadcastInDim S4x64x224x1 ![0, 1, 2, 3] bcast_S1x1x224x1_S4x64x224x1_0_1_2_3 (broadcastInDim S1x1x224x1 ![1, 2, 3] bcast_S1x224x1_S1x1x224x1_1_2_3 (broadcastInDim S1x224x1 ![1, 2] bcast_S224x1_S1x224x1_1_2 (broadcastInDim S224x1 ![0] bcast_S224_S224x1_0 (iotaInDim S224 32 0))))) (broadcastInDim S4x64x224x1 ![0, 1, 2, 3] bcast_S4x64x1x1_S4x64x224x1_0_1_2_3 (broadcastInDim S4x64x1x1 ![0, 1] bcast_S4x64_S4x64x1x1_0_1 (shapeCast _ (extractStridedSlice S4x64x1 ![0, 0, 1] rois slices_S4x64x4_S4x64x1_0_0_1) shapeCasts_S4x64x1_S4x64)))) (cmpi .slt (broadcastInDim S4x64x224x1 ![0, 1, 2, 3] bcast_S1x1x224x1_S4x64x224x1_0_1_2_3 (broadcastInDim S1x1x224x1 ![1, 2, 3] bcast_S1x224x1_S1x1x224x1_1_2_3 (broadcastInDim S1x224x1 ![1, 2] bcast_S224x1_S1x224x1_1_2 (broadcastInDim S224x1 ![0] bcast_S224_S224x1_0 (iotaInDim S224 32 0))))) (broadcastInDim S4x64x224x1 ![0, 1, 2, 3] bcast_S4x64x1x1_S4x64x224x1_0_1_2_3 (broadcastInDim S4x64x1x1 ![0, 1] bcast_S4x64_S4x64x1x1_0_1 (addi (shapeCast _ (extractStridedSlice S4x64x1 ![0, 0, 1] rois slices_S4x64x4_S4x64x1_0_0_1) shapeCasts_S4x64x1_S4x64) (shapeCast _ (extractStridedSlice S4x64x1 ![0, 0, 3] rois slices_S4x64x4_S4x64x1_0_0_3) shapeCasts_S4x64x1_S4x64))))))) (broadcastInDim S4x64x224x224 ![0, 1, 2, 3] bcast_S4x64x1x224_S4x64x224x224_0_1_2_3 (cmpi .sge (broadcastInDim S4x64x1x224 ![0, 1, 2, 3] bcast_S1x1x1x224_S4x64x1x224_0_1_2_3 (broadcastInDim S1x1x1x224 ![1, 2, 3] bcast_S1x1x224_S1x1x1x224_1_2_3 (broadcastInDim S1x1x224 ![1, 2] bcast_S1x224_S1x1x224_1_2 (broadcastInDim S1x224 ![1] bcast_S224_S1x224_1 (iotaInDim S224 32 0))))) (broadcastInDim S4x64x1x224 ![0, 1, 2, 3] bcast_S4x64x1x1_S4x64x1x224_0_1_2_3 (broadcastInDim S4x64x1x1 ![0, 1] bcast_S4x64_S4x64x1x1_0_1 (shapeCast _ (extractStridedSlice S4x64x1 ![0, 0, 0] rois slices_S4x64x4_S4x64x1_0_0_0) shapeCasts_S4x64x1_S4x64)))))) (broadcastInDim S4x64x224x224 ![0, 1, 2, 3] bcast_S4x64x1x224_S4x64x224x224_0_1_2_3 (cmpi .slt (broadcastInDim S4x64x1x224 ![0, 1, 2, 3] bcast_S1x1x1x224_S4x64x1x224_0_1_2_3 (broadcastInDim S1x1x1x224 ![1, 2, 3] bcast_S1x1x224_S1x1x1x224_1_2_3 (broadcastInDim S1x1x224 ![1, 2] bcast_S1x224_S1x1x224_1_2 (broadcastInDim S1x224 ![1] bcast_S224_S1x224_1 (iotaInDim S224 32 0))))) (broadcastInDim S4x64x1x224 ![0, 1, 2, 3] bcast_S4x64x1x1_S4x64x1x224_0_1_2_3 (broadcastInDim S4x64x1x1 ![0, 1] bcast_S4x64_S4x64x1x1_0_1 (addi (shapeCast _ (extractStridedSlice S4x64x1 ![0, 0, 0] rois slices_S4x64x4_S4x64x1_0_0_0) shapeCasts_S4x64x1_S4x64) (shapeCast _ (extractStridedSlice S4x64x1 ![0, 0, 2] rois slices_S4x64x4_S4x64x1_0_0_2) shapeCasts_S4x64x1_S4x64))))))))) (broadcastInDim S4x64x224x224x96 ![0, 2, 3, 4] bcast_S4x224x224x96_S4x64x224x224x96_0_2_3_4 img) (broadcastInDim S4x64x224x224x96 ![1, 2, 3, 4] bcast_S64x224x224x96_S4x64x224x224x96_1_2_3_4 (broadcastInDim S64x224x224x96 ![1, 2, 3] bcast_S224x224x96_S64x224x224x96_1_2_3 (broadcastInDim S224x224x96 ![] bcast_S_S224x224x96 (id (constant S_ .f32 0xFF800000#32)))))

/-- The reference's result. -/
def refOf (img : FVec Ideal S4x224x224x96 .f32) (rois : IVec S4x64x4 32) : FVec Ideal S4x64x96 .f32 :=
  Host.reduce FloatOps.maximumf (masked img rois) (constant S_ .f32 0xFF800000#32) reducesTo_S4x64x224x224x96_S4x64x96_d2_3 h_S_

theorem refOf_eq (img : FVec Ideal S4x224x224x96 .f32) (rois : IVec S4x64x4 32) :
    refOf img rois = Host.reduce FloatOps.maximumf (select (broadcastInDim S4x64x224x224x96 ![0, 1, 2, 3, 4] bcast_S4x64x224x224x1_S4x64x224x224x96_0_1_2_3_4 (broadcastInDim S4x64x224x224x1 ![0, 1, 2, 3] bcast_S4x64x224x224_S4x64x224x224x1_0_1_2_3 (andi (andi (broadcastInDim S4x64x224x224 ![0, 1, 2, 3] bcast_S4x64x224x1_S4x64x224x224_0_1_2_3 (andi (cmpi .sge (broadcastInDim S4x64x224x1 ![0, 1, 2, 3] bcast_S1x1x224x1_S4x64x224x1_0_1_2_3 (broadcastInDim S1x1x224x1 ![1, 2, 3] bcast_S1x224x1_S1x1x224x1_1_2_3 (broadcastInDim S1x224x1 ![1, 2] bcast_S224x1_S1x224x1_1_2 (broadcastInDim S224x1 ![0] bcast_S224_S224x1_0 (iotaInDim S224 32 0))))) (broadcastInDim S4x64x224x1 ![0, 1, 2, 3] bcast_S4x64x1x1_S4x64x224x1_0_1_2_3 (broadcastInDim S4x64x1x1 ![0, 1] bcast_S4x64_S4x64x1x1_0_1 (shapeCast _ (extractStridedSlice S4x64x1 ![0, 0, 1] rois slices_S4x64x4_S4x64x1_0_0_1) shapeCasts_S4x64x1_S4x64)))) (cmpi .slt (broadcastInDim S4x64x224x1 ![0, 1, 2, 3] bcast_S1x1x224x1_S4x64x224x1_0_1_2_3 (broadcastInDim S1x1x224x1 ![1, 2, 3] bcast_S1x224x1_S1x1x224x1_1_2_3 (broadcastInDim S1x224x1 ![1, 2] bcast_S224x1_S1x224x1_1_2 (broadcastInDim S224x1 ![0] bcast_S224_S224x1_0 (iotaInDim S224 32 0))))) (broadcastInDim S4x64x224x1 ![0, 1, 2, 3] bcast_S4x64x1x1_S4x64x224x1_0_1_2_3 (broadcastInDim S4x64x1x1 ![0, 1] bcast_S4x64_S4x64x1x1_0_1 (addi (shapeCast _ (extractStridedSlice S4x64x1 ![0, 0, 1] rois slices_S4x64x4_S4x64x1_0_0_1) shapeCasts_S4x64x1_S4x64) (shapeCast _ (extractStridedSlice S4x64x1 ![0, 0, 3] rois slices_S4x64x4_S4x64x1_0_0_3) shapeCasts_S4x64x1_S4x64))))))) (broadcastInDim S4x64x224x224 ![0, 1, 2, 3] bcast_S4x64x1x224_S4x64x224x224_0_1_2_3 (cmpi .sge (broadcastInDim S4x64x1x224 ![0, 1, 2, 3] bcast_S1x1x1x224_S4x64x1x224_0_1_2_3 (broadcastInDim S1x1x1x224 ![1, 2, 3] bcast_S1x1x224_S1x1x1x224_1_2_3 (broadcastInDim S1x1x224 ![1, 2] bcast_S1x224_S1x1x224_1_2 (broadcastInDim S1x224 ![1] bcast_S224_S1x224_1 (iotaInDim S224 32 0))))) (broadcastInDim S4x64x1x224 ![0, 1, 2, 3] bcast_S4x64x1x1_S4x64x1x224_0_1_2_3 (broadcastInDim S4x64x1x1 ![0, 1] bcast_S4x64_S4x64x1x1_0_1 (shapeCast _ (extractStridedSlice S4x64x1 ![0, 0, 0] rois slices_S4x64x4_S4x64x1_0_0_0) shapeCasts_S4x64x1_S4x64)))))) (broadcastInDim S4x64x224x224 ![0, 1, 2, 3] bcast_S4x64x1x224_S4x64x224x224_0_1_2_3 (cmpi .slt (broadcastInDim S4x64x1x224 ![0, 1, 2, 3] bcast_S1x1x1x224_S4x64x1x224_0_1_2_3 (broadcastInDim S1x1x1x224 ![1, 2, 3] bcast_S1x1x224_S1x1x1x224_1_2_3 (broadcastInDim S1x1x224 ![1, 2] bcast_S1x224_S1x1x224_1_2 (broadcastInDim S1x224 ![1] bcast_S224_S1x224_1 (iotaInDim S224 32 0))))) (broadcastInDim S4x64x1x224 ![0, 1, 2, 3] bcast_S4x64x1x1_S4x64x1x224_0_1_2_3 (broadcastInDim S4x64x1x1 ![0, 1] bcast_S4x64_S4x64x1x1_0_1 (addi (shapeCast _ (extractStridedSlice S4x64x1 ![0, 0, 0] rois slices_S4x64x4_S4x64x1_0_0_0) shapeCasts_S4x64x1_S4x64) (shapeCast _ (extractStridedSlice S4x64x1 ![0, 0, 2] rois slices_S4x64x4_S4x64x1_0_0_2) shapeCasts_S4x64x1_S4x64))))))))) (broadcastInDim S4x64x224x224x96 ![0, 2, 3, 4] bcast_S4x224x224x96_S4x64x224x224x96_0_2_3_4 img) (broadcastInDim S4x64x224x224x96 ![1, 2, 3, 4] bcast_S64x224x224x96_S4x64x224x224x96_1_2_3_4 (broadcastInDim S64x224x224x96 ![1, 2, 3] bcast_S224x224x96_S64x224x224x96_1_2_3 (broadcastInDim S224x224x96 ![] bcast_S_S224x224x96 (id (constant S_ .f32 0xFF800000#32)))))) (constant S_ .f32 0xFF800000#32) reducesTo_S4x64x224x224x96_S4x64x96_d2_3 h_S_ := rfl

/-- A cell of the masked image: the image's where the four comparisons hold. -/
theorem masked_apply (img : FVec Ideal S4x224x224x96 .f32) (rois : IVec S4x64x4 32) (g : Fin 4) (r : Fin 64) (a b : Fin 224) (c : Fin 96) :
    masked img rois (ix5 g r a b c) = Scalar.select
      (IntOp.andi (IntOp.andi (IntOp.andi (IntOp.cmpi .sge (BitVec.ofNat 32 a.val) (rois (ix3 g r 1)))
        (IntOp.cmpi .slt (BitVec.ofNat 32 a.val) (IntOp.addi (rois (ix3 g r 1)) (rois (ix3 g r 3)))))
        (IntOp.cmpi .sge (BitVec.ofNat 32 b.val) (rois (ix3 g r 0))))
        (IntOp.cmpi .slt (BitVec.ofNat 32 b.val) (IntOp.addi (rois (ix3 g r 0)) (rois (ix3 g r 2)))))
      (img (ix4 g a b c)) (Ideal.ofBits .f32 0xFF800000#32) := by
  have w0 := word_apply rois 0 slices_S4x64x4_S4x64x1_0_0_0
  have w1 := word_apply rois 1 slices_S4x64x4_S4x64x1_0_0_1
  have w2 := word_apply rois 2 slices_S4x64x4_S4x64x1_0_0_2
  have w3 := word_apply rois 3 slices_S4x64x4_S4x64x1_0_0_3
  show Scalar.select
      (IntOp.andi (IntOp.andi (IntOp.andi (IntOp.cmpi .sge (BitVec.ofNat 32 a.val) (word rois 1 slices_S4x64x4_S4x64x1_0_0_1 _))
        (IntOp.cmpi .slt (BitVec.ofNat 32 a.val) (IntOp.addi (word rois 1 slices_S4x64x4_S4x64x1_0_0_1 _) (word rois 3 slices_S4x64x4_S4x64x1_0_0_3 _))))
        (IntOp.cmpi .sge (BitVec.ofNat 32 b.val) (word rois 0 slices_S4x64x4_S4x64x1_0_0_0 _)))
        (IntOp.cmpi .slt (BitVec.ofNat 32 b.val) (IntOp.addi (word rois 0 slices_S4x64x4_S4x64x1_0_0_0 _) (word rois 2 slices_S4x64x4_S4x64x1_0_0_2 _))))
      (img _) (Ideal.ofBits .f32 0xFF800000#32) = _
  refine congrArg₂ (fun p q => Scalar.select p q _) ?_ ?_
  · refine congrArg₂ IntOp.andi (congrArg₂ IntOp.andi (congrArg₂ IntOp.andi ?_ ?_) ?_) ?_
    · exact congrArg (IntOp.cmpi .sge _) (w1 _ g r rfl rfl)
    · exact congrArg (IntOp.cmpi .slt _) (congrArg₂ IntOp.addi (w1 _ g r rfl rfl) (w3 _ g r rfl rfl))
    · exact congrArg (IntOp.cmpi .sge _) (w0 _ g r rfl rfl)
    · exact congrArg (IntOp.cmpi .slt _) (congrArg₂ IntOp.addi (w0 _ g r rfl rfl) (w2 _ g r rfl rfl))
  · congr 1
    funext x
    match x with
    | 0 => rfl
    | 1 => rfl
    | 2 => rfl
    | 3 => rfl

/-- The two comparisons of a coordinate with a side of a box. -/
theorem side {a : ℕ} {x e : BitVec 32} (ha : a < 224) (hx : x.toNat < 112) (he : e.toNat < 112) :
    (IntOp.cmpi .sge (BitVec.ofNat 32 a) x = 1#1 ↔ x.toNat ≤ a) ∧ (IntOp.cmpi .slt (BitVec.ofNat 32 a) (IntOp.addi x e) = 1#1 ↔ a < x.toNat + e.toNat) := by
  have one (p : Bool) : (BitVec.ofBool p = 1#1) ↔ p = true := by cases p <;> decide
  have ea : (BitVec.ofNat 32 a).toNat = a := by rw [BitVec.toNat_ofNat]; omega
  have es : (x + e).toNat = x.toNat + e.toNat := by rw [BitVec.toNat_add]; omega
  constructor
  · simp only [IntOp.cmpi, one, BitVec.sle_eq_decide, decide_eq_true_eq, BitVec.toInt_eq_toNat_cond, ea]
    split_ifs <;> omega
  · simp only [IntOp.cmpi, IntOp.addi, one, BitVec.slt_eq_decide, decide_eq_true_eq, BitVec.toInt_eq_toNat_cond, ea, es]
    split_ifs <;> omega

theorem masked_le (img : FVec Ideal S4x224x224x96 .f32) (rois : IVec S4x64x4 32) (g : Fin 4) (r : Fin 64) (a b : Fin 224) (c : Fin 96) (z : EReal)
    (h0 : (rois (ix3 g r 0)).toNat < 112) (h1 : (rois (ix3 g r 1)).toNat < 112) (h2 : (rois (ix3 g r 2)).toNat < 112) (h3 : (rois (ix3 g r 3)).toNat < 112) :
    masked img rois (ix5 g r a b c) ≤ z ↔ (((rois (ix3 g r 1)).toNat ≤ a.val ∧ a.val < (rois (ix3 g r 1)).toNat + (rois (ix3 g r 3)).toNat)
      ∧ (rois (ix3 g r 0)).toNat ≤ b.val ∧ b.val < (rois (ix3 g r 0)).toNat + (rois (ix3 g r 2)).toNat → img (ix4 g a b c) ≤ z) := by
  obtain ⟨s1, s2⟩ := side a.isLt h1 h3
  obtain ⟨s3, s4⟩ := side b.isLt h0 h2
  rw [masked_apply]
  unfold Scalar.select
  split_ifs with h
  · change _ = 1#1 at h
    rw [IntOp.andi_eq_one, IntOp.andi_eq_one, IntOp.andi_eq_one, s1, s2, s3, s4] at h
    exact ⟨fun h' _ => h', fun h' => h' ⟨h.1.1, h.1.2, h.2⟩⟩
  · change ¬ _ = 1#1 at h
    rw [IntOp.andi_eq_one, IntOp.andi_eq_one, IntOp.andi_eq_one, s1, s2, s3, s4] at h
    refine iff_of_true ?_ fun h' => absurd ⟨⟨h'.1, h'.2.1⟩, h'.2.2⟩ h
    rw [show Ideal.ofBits .f32 0xFF800000#32 = (⊥ : EReal) by simp [Ideal.ofBits, Ideal.ieee]]
    exact bot_le

/-- A pooled value of the reference is at most `z` exactly when every cell of its box is. -/
theorem refOf_le (img : FVec Ideal S4x224x224x96 .f32) (rois : IVec S4x64x4 32) (g : Fin 4) (r : Fin 64) (c : Fin 96) (z : EReal)
    (h0 : (rois (ix3 g r 0)).toNat < 112) (h1 : (rois (ix3 g r 1)).toNat < 112) (h2 : (rois (ix3 g r 2)).toNat < 112) (h3 : (rois (ix3 g r 3)).toNat < 112) :
    refOf img rois (ix3 g r c) ≤ z ↔ ∀ a < (rois (ix3 g r 3)).toNat, ∀ b < (rois (ix3 g r 2)).toNat,
      img (ix4 g (Fin.ofNat 224 ((rois (ix3 g r 1)).toNat + a)) (Fin.ofNat 224 ((rois (ix3 g r 0)).toNat + b)) c) ≤ z := by
  unfold refOf
  rw [Host.reduce_eq_fold]
  refine (Finset.fold_max_le (b := Ideal.ofBits .f32 0xFF800000#32) (f := masked img rois) z).trans ?_
  rw [show Ideal.ofBits .f32 0xFF800000#32 = (⊥ : EReal) by simp [Ideal.ofBits, Ideal.ieee]]
  constructor
  · rintro ⟨-, H⟩ a ha b hb
    have m1 : ((rois (ix3 g r 1)).toNat + a) % 224 = (rois (ix3 g r 1)).toNat + a := Nat.mod_eq_of_lt (by omega)
    have m2 : ((rois (ix3 g r 0)).toNat + b) % 224 = (rois (ix3 g r 0)).toNat + b := Nat.mod_eq_of_lt (by omega)
    refine (masked_le img rois g r _ _ c z h0 h1 h2 h3).1 (H _ ?_) ⟨⟨?_, ?_⟩, ?_, ?_⟩
    · rw [Finset.mem_filter]
      refine ⟨Finset.mem_univ _, ?_⟩
      funext x
      match x with
      | 0 => rfl
      | 1 => rfl
      | 2 => rfl
    · show _ ≤ _ % 224; omega
    · show _ % 224 < _; omega
    · show _ ≤ _ % 224; omega
    · show _ % 224 < _; omega
  · intro H
    refine ⟨bot_le, fun i hi => ?_⟩
    have e := (Finset.mem_filter.1 hi).2
    have e0 : i 0 = g := congrFun e 0
    have e1 : i 1 = r := congrFun e 1
    have e2 : i 4 = c := congrFun e 2
    rw [eq_ix5 i, e0, e1, e2]
    refine (masked_le img rois g r (i 2) (i 3) c z h0 h1 h2 h3).2 fun hm => ?_
    have := H ((i 2).val - (rois (ix3 g r 1)).toNat) (by omega) ((i 3).val - (rois (ix3 g r 0)).toNat) (by omega)
    rw [Nat.add_sub_cancel' hm.1.1, Nat.add_sub_cancel' hm.2.1] at this
    rwa [show Fin.ofNat 224 (i 2).val = i 2 from Fin.ext (Nat.mod_eq_of_lt (i 2).isLt), show Fin.ofNat 224 (i 3).val = i 3 from Fin.ext (Nat.mod_eq_of_lt (i 3).isLt)] at this

end Cert.ReferenceIdeal.Boxes
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_in_range
public import proofs.«01_k».proof.Proof.Final
public import proofs.«01_k».proof.Proof.IdealFinal
public import proofs.«01_k».proof.Proof.Windows
public import proofs.«01_k».proof.Proof.Boxes
public import Idealize.ShloMosaic.Adequacy
public import Idealize.ShloMosaic.Init

@[expose] public section

noncomputable section

namespace Cert.Proof

open Idealize.ShloMosaic Idealize.SL.Sem Cert.Kernel

/-- The kernel's frame on the machine's words. -/
theorem frame_kernel : Cert.quiescent_Kernel := fun m ρ hpre =>
  (θ_run Cert.Kernel.defs _ _).mono (fun _ h => ⟨fun c => ⟨(h.1 c).1, (h.1 c).2.1⟩, h.2⟩)
    (Cert.Kernel.Pool.run_main (F := Bits) m ρ (Cert.Kernel.Pool.inRange_of_pre _ _ (hpre 0)))

/-- The kernel's frame on the reals. -/
theorem frame_ideal : Cert.quiescent_KernelIdeal := fun m ρ hpre =>
  (θ_run Cert.KernelIdeal.defs _ _).mono (fun _ h => ⟨fun c => ⟨(h.1 c).1, (h.1 c).2.1⟩, h.2⟩)
    (Cert.KernelIdeal.Pool.run_main (F := Ideal) m ρ (Cert.KernelIdeal.Pool.inRange_of_pre _ _ (hpre 0)))

/-- The reference's frame. -/
theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- The kernel's result is the reference's: both are at most exactly the values every cell of the box is at most. -/
theorem pooled_eq (img : FVec Ideal Cert.KernelIdeal.S4x224x224x96 .f32) (rois : IVec Cert.KernelIdeal.S4x64x4 32)
    (h : Cert.Pre_in_range.fn img rois = fun _ => 1#1) :
    Cert.ReferenceIdeal.Boxes.refOf img rois = Cert.KernelIdeal.Pool.outOf (F := Ideal) img rois := by
  funext j
  rw [ValueIdx.eq_ix3 j]
  have word (k : Fin 4) : rois (Cert.PoolBounds.at3 (j 0) (j 1) k) = rois (ValueIdx.ix3 (j 0) (j 1) k) := by
    congr 1
    funext x
    match x with
    | 0 => rfl
    | 1 => rfl
    | 2 => rfl
  have hb := Cert.PoolBounds.bounds img rois h (j 0) (j 1)
  rw [word, word, word, word] at hb
  refine eq_of_forall_ge_iff fun z => ?_
  exact (Cert.ReferenceIdeal.Boxes.refOf_le img rois (j 0) (j 1) (j 2) z hb.1.1 hb.1.2 hb.2.1.2 hb.2.2.2).trans
    (Cert.KernelIdeal.Pool.outOf_le img rois (Cert.KernelIdeal.Pool.inRange_of_pre img rois h) (j 0) (j 1) (j 2) z).symm

/-- Over the extended reals the kernel and the reference end with the same result. -/
theorem same_result : Cert.algebraic_KernelIdeal_ReferenceIdeal := fun m g m' g' hpre hagree =>
  ⟨fun c => Cert.KernelIdeal.Pool.outOf (F := Ideal) (m (Cert.KernelIdeal.Pool.fLoc c)) (m (Cert.KernelIdeal.Pool.bLoc c)),
    (θ_run Cert.KernelIdeal.defs _ _).mono (fun _ h c => ⟨(h.1 c).2.2, (h.1 c).1, (h.1 c).2.1⟩)
      (Cert.KernelIdeal.Pool.run_main (F := Ideal) m g (Cert.KernelIdeal.Pool.inRange_of_pre _ _ (hpre 0))),
    (θ_run Cert.ReferenceIdeal.defs _ _).mono (fun _ h c => ⟨(h c).1.trans (by
        rw [← Cert.ReferenceIdeal.Boxes.refOf_eq, (hagree c).1, (hagree c).2]
        exact pooled_eq _ _ (hpre c)), (h c).2⟩)
      (Cert.ReferenceIdeal.Value.run (F := Ideal) m' g')⟩

theorem claim : Cert.Claim := ⟨Cert.Kernel.Gen.facts, Cert.KernelIdeal.Gen.facts, Cert.ReferenceIdeal.Gen.facts, Cert.Pre_in_range.Gen.facts,
  frame_kernel, frame_ideal, frame_reference, fun m ρ _ => frame_reference m ρ (by trivial), trivial, same_result⟩

end Cert.Proof

end
